-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1 : Shape := ⟨1, ![1]⟩
abbrev S100000x64 : Shape := ⟨2, ![100000, 64]⟩
abbrev S64x128 : Shape := ⟨2, ![64, 128]⟩
abbrev S128 : Shape := ⟨1, ![128]⟩
abbrev S128x300000 : Shape := ⟨2, ![128, 300000]⟩
abbrev S300000 : Shape := ⟨1, ![300000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S100000x64 .f32) (main_arg2 : FVec F S64x128 .f32) (main_arg3 : FVec F S128 .f32) (main_arg4 : FVec F S128x300000 .f32) (main_arg5 : FVec F S300000 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 100000#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S1 : Shape := ⟨1, ![1]⟩
abbrev S100000x64 : Shape := ⟨2, ![100000, 64]⟩
abbrev S64x128 : Shape := ⟨2, ![64, 128]⟩
abbrev S128 : Shape := ⟨1, ![128]⟩
abbrev S128x300000 : Shape := ⟨2, ![128, 300000]⟩
abbrev S300000 : Shape := ⟨1, ![300000]⟩
abbrev S64x100000 : Shape := ⟨2, ![64, 100000]⟩
abbrev S_ : Shape := ⟨0, ![]⟩
abbrev S64x100096 : Shape := ⟨2, ![64, 100096]⟩
abbrev S1x128 : Shape := ⟨2, ![1, 128]⟩
abbrev S300000x128 : Shape := ⟨2, ![300000, 128]⟩
abbrev S3x100000 : Shape := ⟨2, ![3, 100000]⟩
abbrev S1x300000 : Shape := ⟨2, ![1, 300000]⟩
abbrev S128x1 : Shape := ⟨2, ![128, 1]⟩
abbrev S4x16384x128 : Shape := ⟨3, ![4, 16384, 128]⟩
abbrev S5088x128 : Shape := ⟨2, ![5088, 128]⟩
abbrev S4 : Shape := ⟨1, ![4]⟩
abbrev S64 : Shape := ⟨1, ![64]⟩
abbrev S64x1 : Shape := ⟨2, ![64, 1]⟩
abbrev S1x64 : Shape := ⟨2, ![1, 64]⟩
abbrev S1x16384x128 : Shape := ⟨3, ![1, 16384, 128]⟩
abbrev S16384x128 : Shape := ⟨2, ![16384, 128]⟩
abbrev S1x16384 : Shape := ⟨2, ![1, 16384]⟩
abbrev S16384x1 : Shape := ⟨2, ![16384, 1]⟩
abbrev S16384 : Shape := ⟨1, ![16384]⟩
abbrev S5088x1 : Shape := ⟨2, ![5088, 1]⟩
abbrev S1x5088 : Shape := ⟨2, ![1, 5088]⟩
abbrev S5088 : Shape := ⟨1, ![5088]⟩
abbrev S1x1x16384 : Shape := ⟨3, ![1, 1, 16384]⟩
abbrev S1x1x1 : Shape := ⟨3, ![1, 1, 1]⟩
abbrev S1x1x5088 : Shape := ⟨3, ![1, 1, 5088]⟩
abbrev S1x100000 : Shape := ⟨2, ![1, 100000]⟩

abbrev nBuf : Space → Nat
  | .hbm => 11
  | .vmem => 9
  | .smem => 1
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x300000, .f32⟩
  | .hbm, ⟨4, _⟩ => ⟨S300000, .f32⟩
  | .hbm, ⟨5, _⟩ => ⟨S64x100000, .f32⟩
  | .hbm, ⟨6, _⟩ => ⟨S_, .f32⟩
  | .hbm, ⟨7, _⟩ => ⟨S64x100096, .f32⟩
  | .hbm, ⟨8, _⟩ => ⟨S1x128, .f32⟩
  | .hbm, ⟨9, _⟩ => ⟨S300000x128, .f32⟩
  | .hbm, ⟨10, _⟩ => ⟨S3x100000, .f32⟩
  | .local _ .vmem, ⟨0, _⟩ => ⟨S64x128, .f32⟩
  | .local _ .vmem, ⟨1, _⟩ => ⟨S64x128, .f32⟩
  | .local _ .vmem, ⟨2, _⟩ => ⟨S1x128, .f32⟩
  | .local _ .vmem, ⟨3, _⟩ => ⟨S300000, .f32⟩
  | .local _ .vmem, ⟨4, _⟩ => ⟨S3x100000, .f32⟩
  | .local _ .vmem, ⟨5, _⟩ => ⟨S1x300000, .f32⟩
  | .local _ .vmem, ⟨6, _⟩ => ⟨S128x1, .f32⟩
  | .local _ .vmem, ⟨7, _⟩ => ⟨S4x16384x128, .f32⟩
  | .local _ .vmem, ⟨8, _⟩ => ⟨S5088x128, .f32⟩
  | .local _ .smem, ⟨0, _⟩ => ⟨S1, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_35 : BitVec 32 := 0#32
  let c18_i32 : BitVec 32 := 18#32
  let v54 : BitVec 32 := Scalar.addi c0_i32_35 c18_i32
  let c1_i32_36 : BitVec 32 := 1#32
  ⟨c0_i32_35, v54, c1_i32_36⟩
def k0_off1 (k0_t1 : Fin k0_t1_loop.trips) : Fin 1 → Nat :=
  let c0_i32_35 : BitVec 32 := 0#32
  let c1_i32_36 : BitVec 32 := 1#32
  let arg14 : BitVec 32 := Scf.iv c0_i32_35 c1_i32_36 k0_t1
  let c4_i32 : BitVec 32 := 4#32
  let v90 : BitVec 32 := Scalar.remsi arg14 c4_i32
  ![v90.toNat]
def k0_off2 (k0_t1 : Fin k0_t1_loop.trips) : Fin 3 → Nat :=
  let c0_i32_35 : BitVec 32 := 0#32
  let c1_i32_36 : BitVec 32 := 1#32
  let arg14 : BitVec 32 := Scf.iv c0_i32_35 c1_i32_36 k0_t1
  let c4_i32 : BitVec 32 := 4#32
  let v90 : BitVec 32 := Scalar.remsi arg14 c4_i32
  let c0_i32_58 : BitVec 32 := 0#32
  let c0_i32_59 : BitVec 32 := 0#32
  ![v90.toNat, 0, 0]
def k0_off3 (k0_t1 : Fin k0_t1_loop.trips) : Fin 2 → Nat :=
  let c0_i32_35 : BitVec 32 := 0#32
  let c1_i32_36 : BitVec 32 := 1#32
  let arg14 : BitVec 32 := Scf.iv c0_i32_35 c1_i32_36 k0_t1
  let c16384_i32_57 : BitVec 32 := 16384#32
  let v91 : BitVec 32 := Scalar.muli arg14 c16384_i32_57
  let c0_i32_60 : BitVec 32 := 0#32
  ![v91.toNat, 0]
def k0_off4 (k0_t1 : Fin k0_t1_loop.trips) : Fin 3 → Nat :=
  let c0_i32_35 : BitVec 32 := 0#32
  let c1_i32_36 : BitVec 32 := 1#32
  let arg14 : BitVec 32 := Scf.iv c0_i32_35 c1_i32_36 k0_t1
  let c4_i32 : BitVec 32 := 4#32
  let v90 : BitVec 32 := Scalar.remsi arg14 c4_i32
  let v97 : Index := Scalar.indexCast v90
  let c0_61 : Index := 0#32
  let c0_62 : Index := 0#32
  ![v97.toNat, 0, 0]
def k0_off5 (k0_t1 : Fin k0_t1_loop.trips) : Fin 1 → Nat :=
  let c0_i32_35 : BitVec 32 := 0#32
  let c1_i32_36 : BitVec 32 := 1#32
  let arg14 : BitVec 32 := Scf.iv c0_i32_35 c1_i32_36 k0_t1
  let c16384_i32_66 : BitVec 32 := 16384#32
  let v103 : BitVec 32 := Scalar.muli arg14 c16384_i32_66
  let v104 : Index := Scalar.indexCast v103
  ![v104.toNat]
def k0_off6 (k0_t1 : Fin k0_t1_loop.trips) : Fin 2 → Nat :=
  let c0_68 : Index := 0#32
  let c0_i32_35 : BitVec 32 := 0#32
  let c1_i32_36 : BitVec 32 := 1#32
  let arg14 : BitVec 32 := Scf.iv c0_i32_35 c1_i32_36 k0_t1
  let c16384_i32_67 : BitVec 32 := 16384#32
  let v108 : BitVec 32 := Scalar.muli arg14 c16384_i32_67
  let v109 : Index := Scalar.indexCast v108
  ![0, v109.toNat]
def k0_cond1 (k0_t1 : Fin k0_t1_loop.trips) : BitVec 1 :=
  let c0_i32_35 : BitVec 32 := 0#32
  let c1_i32_36 : BitVec 32 := 1#32
  let arg14 : BitVec 32 := Scf.iv c0_i32_35 c1_i32_36 k0_t1
  let c4_i32_69 : BitVec 32 := 4#32
  let v113 : BitVec 32 := Scalar.addi arg14 c4_i32_69
  let c18_i32_70 : BitVec 32 := 18#32
  let v114 : BitVec 1 := Scalar.cmpi .slt v113 c18_i32_70
  let v115 : BitVec 32 := Scalar.extui v114
  let c0_i32_71 : BitVec 32 := 0#32
  let v116 : BitVec 1 := Scalar.cmpi .ne v115 c0_i32_71
  v116

def k0_off7 (k0_t1 : Fin k0_t1_loop.trips) : Fin 1 → Nat :=
  let c0_i32_35 : BitVec 32 := 0#32
  let c1_i32_36 : BitVec 32 := 1#32
  let arg14 : BitVec 32 := Scf.iv c0_i32_35 c1_i32_36 k0_t1
  let c4_i32 : BitVec 32 := 4#32
  let v90 : BitVec 32 := Scalar.remsi arg14 c4_i32
  ![v90.toNat]
def k0_off8 (k0_t1 : Fin k0_t1_loop.trips) : Fin 3 → Nat :=
  let c0_i32_35 : BitVec 32 := 0#32
  let c1_i32_36 : BitVec 32 := 1#32
  let arg14 : BitVec 32 := Scf.iv c0_i32_35 c1_i32_36 k0_t1
  let c4_i32 : BitVec 32 := 4#32
  let v90 : BitVec 32 := Scalar.remsi arg14 c4_i32
  let c0_i32_74 : BitVec 32 := 0#32
  let c0_i32_75 : BitVec 32 := 0#32
  ![v90.toNat, 0, 0]
def k0_off9 (k0_t1 : Fin k0_t1_loop.trips) : Fin 2 → Nat :=
  let c0_i32_35 : BitVec 32 := 0#32
  let c1_i32_36 : BitVec 32 := 1#32
  let arg14 : BitVec 32 := Scf.iv c0_i32_35 c1_i32_36 k0_t1
  let c4_i32_72 : BitVec 32 := 4#32
  let v119 : BitVec 32 := Scalar.addi arg14 c4_i32_72
  let c16384_i32_73 : BitVec 32 := 16384#32
  let v120 : BitVec 32 := Scalar.muli v119 c16384_i32_73
  let c0_i32_76 : BitVec 32 := 0#32
  ![v120.toNat, 0]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x100000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1 : Shape := ⟨1, ![1]⟩
abbrev S100000x64 : Shape := ⟨2, ![100000, 64]⟩
abbrev S64x128 : Shape := ⟨2, ![64, 128]⟩
abbrev S128 : Shape := ⟨1, ![128]⟩
abbrev S128x300000 : Shape := ⟨2, ![128, 300000]⟩
abbrev S300000 : Shape := ⟨1, ![300000]⟩
abbrev S_ : Shape := ⟨0, ![]⟩
abbrev S1x1 : Shape := ⟨2, ![1, 1]⟩
abbrev S1x64 : Shape := ⟨2, ![1, 64]⟩
abbrev S1x128 : Shape := ⟨2, ![1, 128]⟩
abbrev S1x300000 : Shape := ⟨2, ![1, 300000]⟩
abbrev S3x100000 : Shape := ⟨2, ![3, 100000]⟩

abbrev nBuf : Space → Nat
  | .hbm => 53
  | .vmem => 0
  | .smem => 0
  | _ => 0

abbrev bufTy : (tb : Table) → Fin (tcTables nBuf tb) → BufTy
  | .hbm, ⟨0, _⟩ => ⟨S1, .i32⟩
  | .hbm, ⟨1, _⟩ => ⟨S100000x64, .f32⟩
  | .hbm, ⟨2, _⟩ => ⟨S64x128, .f32⟩
  | .hbm, ⟨3, _⟩ => ⟨S128, .f32⟩
  | .hbm, ⟨4, _⟩ => ⟨S128x300000, .f32⟩
  | .hbm, ⟨5, _⟩ => ⟨S300000, .f32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1x1, .i32⟩
  | .hbm, ⟨14, _⟩ => ⟨S1, .i32⟩
  | .hbm, ⟨15, _⟩ => ⟨S_, .i32⟩
  | .hbm, ⟨16, _⟩ => ⟨S1x1, .i32⟩
  | .hbm, ⟨17, _⟩ => ⟨S1x1, .i1⟩
  | .hbm, ⟨18, _⟩ => ⟨S1x1, .i32⟩
  | .hbm, ⟨19, _⟩ => ⟨S1x1, .i1⟩
  | .hbm, ⟨20, _⟩ => ⟨S1x1, .i1⟩
  | .hbm, ⟨21, _⟩ => ⟨S_, .i1⟩
  | .hbm, ⟨22, _⟩ => ⟨S1, .i1⟩
  | .hbm, ⟨23, _⟩ => ⟨S1x64, .f32⟩
  | .hbm, ⟨24, _⟩ => ⟨S1x64, .i1⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x300000, .f32⟩
  | .hbm, ⟨35, _⟩ => ⟨S1x300000, .f32⟩
  | .hbm, ⟨36, _⟩ => ⟨S1x300000, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x300000, .f32⟩
  | .hbm, ⟨44, _⟩ => ⟨S1x300000, .f32⟩
  | .hbm, ⟨45, _⟩ => ⟨S1x300000, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x1, .f32⟩
  | .hbm, ⟨50, _⟩ => ⟨S1x300000, .f32⟩
  | .hbm, ⟨51, _⟩ => ⟨S1x300000, .f32⟩
  | .hbm, ⟨52, _⟩ => ⟨S3x100000, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call1_cst : Ref sig .tc := ⟨.hbm, 31, rfl⟩
abbrev main_call1_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v8 : Ref sig .tc := ⟨.hbm, 51, rfl⟩
abbrev main_v9 : Ref sig .tc := ⟨.hbm, 52, rfl⟩

abbrev nD : Nat := 1
abbrev τ : Topo := Topo.v7x

variable {F : FTy → Type} [FloatOps F]
-- ==== Proof.Word.lean ====
/-
  The index as a word: what the precondition says of it, and its quotient and remainder by 128.
-/
module

public import proofs.«01_k».proof.Proof.Gen.Pre_in_vocab
public import Idealize.ShloMosaic.Lib.ReduceAll
public import Idealize.ShloMosaic.Lib.Routing.Words
public import Idealize.ShloMosaic.Lib.StableHlo.Predicate

@[expose] public section

set_option maxRecDepth 16384

noncomputable section

namespace Cert.Proof.Word

open Idealize.ShloMosaic Cert.Pre_in_vocab Cert.Pre_in_vocab.Gen

/-- The precondition says that the index, read as a natural number, is a row of the embedding table. -/
theorem range_of_pre {F : FTy → Type} [FloatOps F] (a0 : IVec S1 32) (a1 : FVec F S100000x64 .f32) (a2 : FVec F S64x128 .f32)
    (a3 : FVec F S128 .f32) (a4 : FVec F S128x300000 .f32) (a5 : FVec F S300000 .f32)
    (e : Cert.Pre_in_vocab.fn (F := F) a0 a1 a2 a3 a4 a5 = fun _ => 1#1) (j : S1.Idx) : (a0 j).toNat < 100000 := by
  haveI : Subsingleton S_.Idx := ⟨fun x y => funext fun a => a.elim0⟩
  have h := Host.reduce_andi_all _ _ _ _ (fun a => a.elim0) (congrFun e (fun a => a.elim0)) j
  simp only [andi, cmpi, broadcastInDim, constantI] at h
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  have h1 : (100000#32 : BitVec 32).toInt = 100000 := by decide
  rw [h0, h1] at h
  have hl := (a0 j).isLt
  have := BitVec.toInt_eq_toNat_cond (a0 j)
  split at this <;> omega

/-- The quotient rounded toward minus infinity, as the index map computes it from the quotient rounded toward zero,
    of a small natural number by 128. -/
theorem floor_div (n : Nat) (hn : n < 100000) :
    (Scalar.select (Scalar.andi (Scalar.cmpi .ne (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt 128#32 0#32)) (Scalar.extui (Scalar.cmpi .slt 128#32 0#32))))
      (Scalar.cmpi .ne (Scalar.remsi (BitVec.ofNat 32 n) 128#32) 0#32))
      (Scalar.subi (Scalar.divsi (BitVec.ofNat 32 n) 128#32) 1#32) (Scalar.divsi (BitVec.ofNat 32 n) 128#32)) = BitVec.ofNat 32 (n / 128) := by
  have hd : Scalar.divsi (BitVec.ofNat 32 n) 128#32 = BitVec.ofNat 32 (n / 128) := Routing.divsi_word .scalar (by omega) (by omega) (by omega)
  have hr : Scalar.remsi (BitVec.ofNat 32 n) 128#32 = BitVec.ofNat 32 (n % 128) := Routing.remsi_word .scalar (by omega) (by omega) (by omega)
  rcases Nat.eq_zero_or_pos n with rfl | hp
  · rw [hd, hr]; decide
  · have hs : Scalar.cmpi .sgt (BitVec.ofNat 32 n) 0#32 = 1#1 :=
      (StableHlo.Predicate.sgt_iff_toNat (by simp; omega) (by decide)).2 (by simp; omega)
    have hl : Scalar.cmpi .slt (BitVec.ofNat 32 n) 0#32 = 0#1 := by
      have : ¬ (Scalar.cmpi .slt (BitVec.ofNat 32 n) 0#32 = 1#1) := fun h =>
        absurd ((StableHlo.Predicate.slt_iff_toNat (by simp; omega) (by decide)).1 h) (by simp)
      revert this; generalize Scalar.cmpi .slt (BitVec.ofNat 32 n) 0#32 = b; revert b; decide
    rw [hs, hl, hd]
    generalize Scalar.cmpi .ne (Scalar.remsi (BitVec.ofNat 32 n) 128#32) 0#32 = b
    have : Scalar.andi (Scalar.cmpi .ne (Scalar.subi (Scalar.extui 1#1) (Scalar.extui 0#1))
        (Scalar.subi (Scalar.extui (Scalar.cmpi .sgt 128#32 0#32)) (Scalar.extui (Scalar.cmpi .slt 128#32 0#32)))) b = 0#1 := by
      revert b; decide
    rw [this]; rfl

/-- The remainder with the divisor's sign, as the kernel computes it from the remainder with the dividend's sign,
    of a small natural number by 128. -/
theorem floor_mod (n : Nat) (hn : n < 100000) :
    (Scalar.select (Scalar.andi (Scalar.xori
          (Scalar.cmpi .slt (Scalar.remsi (BitVec.ofNat 32 n) (Scalar.select (Scalar.cmpi .eq 128#32 0#32) 1#32 128#32)) 0#32)
          (Scalar.cmpi .slt (Scalar.select (Scalar.cmpi .eq 128#32 0#32) 1#32 128#32) 0#32))
        (Scalar.cmpi .ne (Scalar.remsi (BitVec.ofNat 32 n) (Scalar.select (Scalar.cmpi .eq 128#32 0#32) 1#32 128#32)) 0#32))
      (Scalar.addi (Scalar.remsi (BitVec.ofNat 32 n) (Scalar.select (Scalar.cmpi .eq 128#32 0#32) 1#32 128#32)) (Scalar.select (Scalar.cmpi .eq 128#32 0#32) 1#32 128#32))
      (Scalar.remsi (BitVec.ofNat 32 n) (Scalar.select (Scalar.cmpi .eq 128#32 0#32) 1#32 128#32))) = BitVec.ofNat 32 (n % 128) := by
  have h3 : (Scalar.select (Scalar.cmpi .eq 128#32 0#32) 1#32 128#32 : BitVec 32) = 128#32 := by decide
  have hr : Scalar.remsi (BitVec.ofNat 32 n) 128#32 = BitVec.ofNat 32 (n % 128) := Routing.remsi_word .scalar (by omega) (by omega) (by omega)
  rw [h3, hr]
  have hm : n % 128 < 128 := Nat.mod_lt _ (by omega)
  have hl : Scalar.cmpi .slt (BitVec.ofNat 32 (n % 128)) 0#32 = 0#1 := by
    have : ¬ (Scalar.cmpi .slt (BitVec.ofNat 32 (n % 128)) 0#32 = 1#1) := fun h =>
      absurd ((StableHlo.Predicate.slt_iff_toNat (by simp; omega) (by decide)).1 h) (by simp)
    revert this; generalize Scalar.cmpi .slt (BitVec.ofNat 32 (n % 128)) 0#32 = b; revert b; decide
  rw [hl]
  generalize Scalar.cmpi .ne (BitVec.ofNat 32 (n % 128)) 0#32 = b
  have : Scalar.andi (Scalar.xori 0#1 (Scalar.cmpi .slt 128#32 0#32)) b = 0#1 := by revert b; decide
  rw [this]; rfl

end Cert.Proof.Word

end
-- ==== Proof.KernelIdeal.Ring.lean ====
/-
  The ring of four slots the kernel streams the transposed second weight matrix through: names for the
  blocks of the matrix, the slots and the semaphores, the equations that bring the program's slices to
  these names, and the assertions the runs are stated with.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Ring
public import Idealize.ShloMosaic.Lib.Affine
public import Idealize.ShloMosaic.Lib.WritesUnit
public import Idealize.ShloMosaic.Lib.VecWindow
public import Idealize.ShloMosaic.Lib.Tactic

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the runs: the pipeline's rounds beside the counters of the kernel's own transfers. -/
abbrev UU (nD : Nat) (τ : Topo) : Type := Pipeline.UD sig nD τ
local notation "𝕄" => MT nD τ sig Unit (Elt F) ℕ (UU nD τ) ℕ
/-- The program has no variants. -/
abbrev 𝒱₀ : Variants := Variants.none

omit [FloatOps F] in
/-- Equal assertions entail each other. -/
theorem entails_of_eq {P Q : sProp 𝕄} (e : P = Q) : P ⊢ Q := e ▸ .rfl

/-! ## The operands the pipeline does not stage -/

/-- The one index, in scalar memory. -/
abbrev tabM : Memref sig .tc .smem S1 .i32 := Memref.whole main_arg0
/-- The transposed second weight matrix. -/
abbrev wM : Memref sig .tc .hbm S300000x128 .f32 := Memref.whole main_v3
/-- The row of logits. -/
abbrev accM : Memref sig .tc .vmem S1x300000 .f32 := Memref.whole cc0_scratch0
/-- The hidden column. -/
abbrev hM : Memref sig .tc .vmem S128x1 .f32 := Memref.whole cc0_scratch1
/-- The ring. -/
abbrev bufM : Memref sig .tc .vmem S4x16384x128 .f32 := Memref.whole cc0_scratch2
/-- The buffer of the last 5088 rows. -/
abbrev tailM : Memref sig .tc .vmem S5088x128 .f32 := Memref.whole cc0_scratch3

/-! ## Blocks, slots, semaphores -/

/-- Block `b` of the matrix starts at row `16384 b`. -/
abbrev grpOff (b : Fin 18) : Fin 2 → Nat := ![16384 * b.val, 0]
theorem grpOff_inb (b : Fin 18) : ∀ a, grpOff b a + S16384x128.size a ≤ S300000x128.size a := by
  have := b.isLt; intro a; fin_cases a
  · show 16384 * b.val + 16384 ≤ 300000; omega
  · show 0 + 128 ≤ 128; omega
/-- Slot `s` is the ring's matrix number `s`. -/
abbrev slotOff (s : Fin 4) : Fin 3 → Nat := ![s.val, 0, 0]
theorem slotOff_inb (s : Fin 4) : ∀ a, slotOff s a + S1x16384x128.size a ≤ S4x16384x128.size a := by
  have := s.isLt; intro a; fin_cases a
  · show s.val + 1 ≤ 4; omega
  · show 0 + 16384 ≤ 16384; omega
  · show 0 + 128 ≤ 128; omega
/-- Its semaphore is number `s` of the four. -/
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Block `b` of the matrix: 16384 rows. -/
def grp (b : Fin 18) : Memref sig .tc .hbm S16384x128 .f32 :=
  wM.slice (Rect.unit (s := S300000x128) (grpOff b) S16384x128.size (grpOff_inb b)) (fun _ => rfl)
/-- The last 5088 rows. -/
def grpT : Memref sig .tc .hbm S5088x128 .f32 :=
  wM.slice (Rect.unit (s := S300000x128) ![294912, 0] S5088x128.size inb_S300000x128_S5088x128_294912_0) (fun _ => rfl)
/-- Slot `s` of the ring. -/
def rslot (s : Fin 4) : Memref sig .tc .vmem S16384x128 .f32 :=
  (bufM.slice (Rect.unit (s := S4x16384x128) (slotOff s) S1x16384x128.size (slotOff_inb s)) (fun _ => rfl)).squeeze S16384x128 squeezes_S1x16384x128_S16384x128
/-- Slot `s`'s semaphore. -/
def csm (s : Fin 4) : DmaSems sig S_ := (cc0_scratch4.slice (Rect.unit (s := S4) (semOff s) S1.size (semOff_inb s))).squeeze S_ squeezes_S1_S_

instance (s : Fin 4) : ClosedOff (slotOff s) := ⟨slotOff s, rfl⟩
instance (b : Fin 18) : ClosedOff (grpOff b) := ⟨grpOff b, rfl⟩

/-! ## The program's slices are these -/

theorem trips_eq : k0_t1_loop.trips = 18 := by decide
theorem trip_lt (k : Fin k0_t1_loop.trips) : k.val < 18 := trips_eq ▸ k.isLt

theorem slv (k : ℕ) : (Ring.sl 4 k).val = k % 4 := by simp [Ring.sl, Fin.ofNat]

theorem semOff_k (k : Fin k0_t1_loop.trips) : (![k.val % 4] : Fin 1 → Nat) = semOff (Ring.sl 4 k.val) := by
  unfold semOff; rw [slv]
theorem slotOff_k (k : Fin k0_t1_loop.trips) : (![k.val % 4, 0, 0] : Fin 3 → Nat) = slotOff (Ring.sl 4 k.val) := by
  unfold slotOff; rw [slv]
theorem grpOff_k (k : Fin k0_t1_loop.trips) : (![16384 * k.val, 0] : Fin 2 → Nat) = grpOff (Ring.bk 18 k.val) := by
  unfold grpOff; rw [Ring.bk_val (trip_lt k)]
theorem grpOff_k4 (k : Fin k0_t1_loop.trips) (h : k.val + 4 < 18) :
    (![16384 * k.val + 65536, 0] : Fin 2 → Nat) = grpOff (Ring.bk 18 (k.val + 4)) := by
  unfold grpOff; rw [Ring.bk_val h, Nat.mul_add]

/-- The refill's condition says that block `k + 4` exists. -/
theorem cond_iff : ∀ k : Fin k0_t1_loop.trips, k0_cond1 k = 1#1 ↔ k.val + 4 < 18 := by decide +kernel

theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (bufM.slice (Rect.unit (s := S4x16384x128) off S1x16384x128.size hh) hs).squeeze S16384x128 squeezes_S1x16384x128_S16384x128 = rslot s :=
  congrArg (fun M : Memref sig .tc .vmem S1x16384x128 .f32 => M.squeeze S16384x128 squeezes_S1x16384x128_S16384x128) (Memref.slice_unit_congr _ e _ _ _ _)
theorem grp_congr {off : Fin 2 → Nat} {b : Fin 18} (e : off = grpOff b) (hh hs) :
    wM.slice (Rect.unit (s := S300000x128) off S16384x128.size hh) hs = grp b :=
  Memref.slice_unit_congr _ e _ _ _ (fun _ => rfl)

@[sl_canon] theorem semL0 (hh) : (cc0_scratch4.slice (Rect.unit (s := S4) ![0] S1.size hh)).squeeze S_ squeezes_S1_S_ = csm 0 := csm_congr (by decide) _
@[sl_canon] theorem semL1 (hh) : (cc0_scratch4.slice (Rect.unit (s := S4) ![1] S1.size hh)).squeeze S_ squeezes_S1_S_ = csm 1 := csm_congr (by decide) _
@[sl_canon] theorem semL2 (hh) : (cc0_scratch4.slice (Rect.unit (s := S4) ![2] S1.size hh)).squeeze S_ squeezes_S1_S_ = csm 2 := csm_congr (by decide) _
@[sl_canon] theorem semL3 (hh) : (cc0_scratch4.slice (Rect.unit (s := S4) ![3] S1.size hh)).squeeze S_ squeezes_S1_S_ = csm 3 := csm_congr (by decide) _
@[sl_canon] theorem slotL0 (hh hs) : (bufM.slice (Rect.unit (s := S4x16384x128) ![0, 0, 0] S1x16384x128.size hh) hs).squeeze S16384x128 squeezes_S1x16384x128_S16384x128 = rslot 0 := rslot_congr (by decide) _ _
@[sl_canon] theorem slotL1 (hh hs) : (bufM.slice (Rect.unit (s := S4x16384x128) ![1, 0, 0] S1x16384x128.size hh) hs).squeeze S16384x128 squeezes_S1x16384x128_S16384x128 = rslot 1 := rslot_congr (by decide) _ _
@[sl_canon] theorem slotL2 (hh hs) : (bufM.slice (Rect.unit (s := S4x16384x128) ![2, 0, 0] S1x16384x128.size hh) hs).squeeze S16384x128 squeezes_S1x16384x128_S16384x128 = rslot 2 := rslot_congr (by decide) _ _
@[sl_canon] theorem slotL3 (hh hs) : (bufM.slice (Rect.unit (s := S4x16384x128) ![3, 0, 0] S1x16384x128.size hh) hs).squeeze S16384x128 squeezes_S1x16384x128_S16384x128 = rslot 3 := rslot_congr (by decide) _ _
@[sl_canon] theorem grpL0 (hh hs) : wM.slice (Rect.unit (s := S300000x128) ![0, 0] S16384x128.size hh) hs = grp 0 := grp_congr (by decide) _ _
@[sl_canon] theorem grpL1 (hh hs) : wM.slice (Rect.unit (s := S300000x128) ![16384, 0] S16384x128.size hh) hs = grp 1 := grp_congr (by decide) _ _
@[sl_canon] theorem grpL2 (hh hs) : wM.slice (Rect.unit (s := S300000x128) ![32768, 0] S16384x128.size hh) hs = grp 2 := grp_congr (by decide) _ _
@[sl_canon] theorem grpL3 (hh hs) : wM.slice (Rect.unit (s := S300000x128) ![49152, 0] S16384x128.size hh) hs = grp 3 := grp_congr (by decide) _ _
@[sl_canon] theorem grpLT (hh hs) : wM.slice (Rect.unit (s := S300000x128) ![294912, 0] S5088x128.size hh) hs = grpT := rfl

@[sl_canon] theorem semK (k : Fin k0_t1_loop.trips) (hh) :
    (cc0_scratch4.slice (Rect.unit (s := S4) (k0_off1 k) S1.size hh)).squeeze S_ squeezes_S1_S_ = csm (Ring.sl 4 k.val) :=
  csm_congr ((k0_off1_eq k).trans (semOff_k k)) _
@[sl_canon] theorem semK' (k : Fin k0_t1_loop.trips) (hh) :
    (cc0_scratch4.slice (Rect.unit (s := S4) (k0_off7 k) S1.size hh)).squeeze S_ squeezes_S1_S_ = csm (Ring.sl 4 k.val) :=
  csm_congr ((k0_off7_eq k).trans (semOff_k k)) _
@[sl_canon] theorem slotK (k : Fin k0_t1_loop.trips) (hh hs) :
    (bufM.slice (Rect.unit (s := S4x16384x128) (k0_off2 k) S1x16384x128.size hh) hs).squeeze S16384x128 squeezes_S1x16384x128_S16384x128 = rslot (Ring.sl 4 k.val) :=
  rslot_congr ((k0_off2_eq k).trans (slotOff_k k)) _ _
@[sl_canon] theorem slotK' (k : Fin k0_t1_loop.trips) (hh hs) :
    (bufM.slice (Rect.unit (s := S4x16384x128) (k0_off8 k) S1x16384x128.size hh) hs).squeeze S16384x128 squeezes_S1x16384x128_S16384x128 = rslot (Ring.sl 4 k.val) :=
  rslot_congr ((k0_off8_eq k).trans (slotOff_k k)) _ _
@[sl_canon] theorem grpW (k : Fin k0_t1_loop.trips) (hh hs) :
    wM.slice (Rect.unit (s := S300000x128) (k0_off3 k) S16384x128.size hh) hs = grp (Ring.bk 18 k.val) :=
  grp_congr ((k0_off3_eq k).trans (grpOff_k k)) _ _
@[sl_canon] theorem grpI (k : Fin k0_t1_loop.trips) (h : k.val + 4 < 18) (hh hs) :
    wM.slice (Rect.unit (s := S300000x128) (k0_off9 k) S16384x128.size hh) hs = grp (Ring.bk 18 (k.val + 4)) :=
  grp_congr ((k0_off9_eq k).trans (grpOff_k4 k h)) _ _

/-- The load of trip `k` reads slot `k % 4`. -/
instance closedOff_load (k : Fin k0_t1_loop.trips) : ClosedOff (k0_off4 k) := ⟨slotOff (Ring.sl 4 k.val), (k0_off4_eq k).trans (slotOff_k k)⟩

/-! ## The assertions -/

section Pieces
variable (c : Dev nD) (XA : Buf (Elt F) (wM.view.loc (c : Thread nD τ)))

/-- Slot `s`'s semaphore at zero. -/
abbrev cellP (s : Fin 4) : sProp 𝕄 := semVal ((c : Thread nD τ), SemLoc.dma (csm s).sem) 0
/-- The last rows' semaphore at zero. -/
abbrev cellT : sProp 𝕄 := semVal ((c : Thread nD τ), SemLoc.dma cc0_scratch5.sem) 0
/-- Slot `s` held at contents `f`. -/
abbrev slotP (s : Fin 4) (f : Buf (Elt F) ((rslot s).view.loc (c : Thread nD τ))) : sProp 𝕄 :=
  (rslot s).view.loc (c : Thread nD τ) ↦[(rslot s).view.set]{fullShare} f
/-- Block `b` of the matrix held at the matrix's contents. -/
abbrev homeP (b : Fin 18) : sProp 𝕄 := (grp b).view.loc (c : Thread nD τ) ↦[(grp b).view.set]{fullShare} XA
/-- The last rows held. -/
abbrev homeT : sProp 𝕄 := grpT.view.loc (c : Thread nD τ) ↦[grpT.view.set]{fullShare} XA
/-- What block `b` is as a slot's payload. -/
abbrev payload (b : Fin 18) : S16384x128.Idx → Elt F .f32 := ReadAs.same.apply ((grp b).view.read (Elt F) XA)
/-- Slot `s` after block `b` was copied into it over contents `f`. -/
abbrev landed (s : Fin 4) (b : Fin 18) (f : Buf (Elt F) ((rslot s).view.loc (c : Thread nD τ))) : Buf (Elt F) ((rslot s).view.loc (c : Thread nD τ)) :=
  (rslot s).view.writes (Elt F) f [⟨Rect.whole S16384x128, payload c XA b⟩]
/-- A block's copy signals its semaphore this much. -/
abbrev NN : ℕ := 16384 * 16
/-- Block `b` on its way into slot `s`. -/
abbrev flightP (s : Fin 4) (b : Fin 18) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- What slot `p % 4` is at when it is the turn of block `p`: the block is on its way, or, there being no
    such block, the slot and its semaphore are free. -/
@[irreducible] def roleP (p : ℕ) : sProp 𝕄 :=
  if p < 18 then iprop(∃ f, flightP c XA (Ring.sl 4 p) (Ring.bk 18 p) f)
  else iprop((∃ f, slotP c (Ring.sl 4 p) f) ∗ cellP c (Ring.sl 4 p))

theorem roleP_lt {p : ℕ} (h : p < 18) : roleP c XA p = iprop(∃ f, flightP c XA (Ring.sl 4 p) (Ring.bk 18 p) f) := by
  unfold roleP; exact if_pos h
theorem roleP_ge {p : ℕ} (h : ¬ p < 18) : roleP c XA p = iprop((∃ f, slotP c (Ring.sl 4 p) f) ∗ cellP c (Ring.sl 4 p)) := by
  unfold roleP; exact if_neg h

theorem homes_here (k : ℕ) (hk : k + 4 < 18) :
    bigSep (Ring.homeSet 4 k) (homeP c XA) = iprop(homeP c XA (Ring.bk 18 (k + 4)) ∗ bigSep ((Ring.homeSet 4 k).erase (Ring.bk 18 (k + 4))) (homeP c XA)) := by
  conv_lhs => rw [Ring.homeSet_out 4 k hk, bigSep_insert (Ring.bkL_not_mem_erase 4 k)]
  rfl
theorem homes_next (k : ℕ) (hk : k + 4 < 18) :
    bigSep (Ring.homeSet 4 (k + 1)) (homeP c XA) = iprop(homeP c XA (Ring.bk 18 k) ∗ bigSep ((Ring.homeSet 4 k).erase (Ring.bk 18 (k + 4))) (homeP c XA)) := by
  conv_lhs => rw [Ring.homeSet_succ 4 k hk, bigSep_insert (Ring.bk_not_mem_erase 4 k (by omega) (by decide))]
  rfl
theorem homes_tail (k : ℕ) (hk : 18 ≤ k + 4) (hp : k < 18) :
    bigSep (Ring.homeSet 4 (k + 1)) (homeP c XA) = iprop(homeP c XA (Ring.bk 18 k) ∗ bigSep (Ring.homeSet 4 k) (homeP c XA)) := by
  conv_lhs => rw [Ring.homeSet_succ_tail 4 k hk hp, bigSep_insert (Ring.bk_not_mem_homeSet 4 k hp (by decide))]
  rfl

omit [FloatOps F] in
theorem sl_add4 (k : ℕ) : Ring.sl 4 (k + 4) = Ring.sl 4 k := Ring.sl_add 4 k

/-- The copy a trip issues, over the slot as the previous block left it, as a flight. -/
theorem flightP_after (s : Fin 4) (b b' : Fin 18) :
    flightP c XA s b' ((rslot s).view.writes (Elt F) (rslot s).view.junk [⟨Rect.whole S16384x128, payload c XA b⟩])
      = Transfers.Flight countersEmb (c : Thread nD τ) (SemLoc.dma (csm s).sem) () NN
          iprop(((rslot s).view.loc (c : Thread nD τ) ↦[(rslot s).view.set]{fullShare}
                  (rslot s).view.writes (Elt F) (rslot s).view.junk [⟨Rect.whole S16384x128, payload c XA b'⟩, ⟨Rect.whole S16384x128, payload c XA b⟩])
                ∗ homeP c XA b') := by
  simp only [flightP, landed, slotP, NN, View.writes]

end Pieces

end Cert.Proof.KernelIdealRun

end
-- ==== Proof.KernelIdeal.Trip.lean ====
/-
  One trip of the kernel's loop over the blocks of the transposed second weight matrix.
-/
module

public import proofs.«01_k».proof.Proof.KernelIdeal.Ring

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Trip

variable (c : Dev nD) (XA : Buf (Elt F) (wM.view.loc (c : Thread nD τ)))
  (i : grid0.Coords)
  (arg2 : Memref sig .tc .vmem S64x128 .f32) (harg2 : arg2.IsWhole)
  (arg3 : Memref sig .tc .vmem S64x128 .f32) (harg3 : arg3.IsWhole)
  (arg4 : Memref sig .tc .vmem S1x128 .f32) (harg4 : arg4.IsWhole)
  (arg6 : Memref sig .tc .vmem S300000 .f32) (harg6 : arg6.IsWhole)
  (arg7 : Memref sig .tc .vmem S3x100000 .f32) (harg7 : arg7.IsWhole)

/-- The row of logits held at contents `f`; -/
abbrev accP (f : Buf (Elt F) (accM.view.loc (c : Thread nD τ))) : sProp 𝕄 := accM.view.loc (c : Thread nD τ) ↦[accM.view.set]{fullShare} f
/-- the hidden column; -/
abbrev hP (f : Buf (Elt F) (hM.view.loc (c : Thread nD τ))) : sProp 𝕄 := hM.view.loc (c : Thread nD τ) ↦[hM.view.set]{fullShare} f
/-- the second bias. -/
abbrev b2P (f : Buf (Elt F) (arg6.view.loc (c : Thread nD τ))) : sProp 𝕄 := arg6.view.loc (c : Thread nD τ) ↦[arg6.view.set]{fullShare} f

/-- What is held before trip `k`. -/
def resAt (g9 : Buf (Elt F) (hM.view.loc (c : Thread nD τ))) (g6 : Buf (Elt F) (arg6.view.loc (c : Thread nD τ))) (k : ℕ)
    (fA : Buf (Elt F) (accM.view.loc (c : Thread nD τ))) : sProp 𝕄 :=
  iprop(accP c fA ∗ hP c g9 ∗ b2P c arg6 g6 ∗ (∃ W, owes (c : Thread nD τ) 0 W)
    ∗ bigSep (Ring.homeSet 4 k) (homeP c XA)
    ∗ roleP c XA k ∗ roleP c XA (k + 1) ∗ roleP c XA (k + 2) ∗ roleP c XA (k + 3))

/-- The loop's region on the kernel's operands. -/
abbrev tripG (k : Fin k0_t1_loop.trips) (acc : FVec F S1x16384 .f32) : Prog (TpuEff nD τ sig (Elt F) Λ₀ .tc) (FVec F S1x16384 .f32) :=
  k0_t1_body (F := F) i tabM (Memref.isWhole_whole _) arg2 harg2 arg3 harg3 arg4 harg4 wM (Memref.isWhole_whole _) arg6 harg6 arg7 harg7
    accM (Memref.isWhole_whole _) hM (Memref.isWhole_whole _) bufM (Memref.isWhole_whole _) tailM (Memref.isWhole_whole _) cc0_scratch4 cc0_scratch5 k acc

/-- The hidden column as the loop reads it. -/
abbrev hOf (g9 : Buf (Elt F) (hM.view.loc (c : Thread nD τ))) : Vec F S128x1 .f32 :=
  hM.view.readAt (Elt F) (Rect.unit (s := S128x1) ![0, 0] S128x1.size inb_S128x1_S128x1_0_0).toLoadRect g9
/-- The second bias as trip `k` reads it. -/
abbrev b2Of (g6 : Buf (Elt F) (arg6.view.loc (c : Thread nD τ))) (k : Fin k0_t1_loop.trips) : Vec F S16384 .f32 :=
  arg6.view.readAt (Elt F) (Rect.unit (s := S300000) (k0_off5 k) S16384.size (k0_off5_inb k)).toLoadRect g6
/-- Block `b` as a trip reads it out of its slot. -/
def chunk (b : Fin 18) : Vec F S1x16384x128 .f32 := shapeCast S1x16384x128 (payload c XA b) (by decide)

/-- A load of a slot reads the block that was copied into it. -/
theorem chunk_read (s : Fin 4) (b : Fin 18) (f : Buf (Elt F) ((rslot s).view.loc (c : Thread nD τ)))
    {off : Fin 3 → Nat} (e : off = slotOff s) (hh : ∀ a, off a + S1x16384x128.size a ≤ S4x16384x128.size a) :
    bufM.view.readAt (Elt F) (Rect.unit (s := S4x16384x128) off S1x16384x128.size hh).toLoadRect (landed c XA s b f) = chunk c XA b := by
  subst e
  have h1 : (rslot s).view.read (Elt F) (landed c XA s b f) = payload c XA b := View.read_writes_whole _ _ _
  have h2 : (rslot s).view.read (Elt F) (landed c XA s b f)
      = shapeCast S16384x128 (bufM.view.readAt (Elt F) (Rect.unit (s := S4x16384x128) (slotOff s) S1x16384x128.size (slotOff_inb s)).toLoadRect (landed c XA s b f)) (show S1x16384x128.ShapeCasts S16384x128 from by decide) := rfl
  unfold chunk
  rw [← h1, h2]
  funext y
  simp only [shapeCast, Shape.reshapeEquiv_reshapeEquiv, Shape.reshapeEquiv_self]

/-- What trip `k` stores: the logits of its 16384 columns. -/
abbrev valOf (g9 : Buf (Elt F) (hM.view.loc (c : Thread nD τ))) (g6 : Buf (Elt F) (arg6.view.loc (c : Thread nD τ))) (k : Fin k0_t1_loop.trips) : FVec F S1x16384 .f32 :=
  k0_pay10 (chunk c XA (Ring.bk 18 k.val)) (hOf c g9) (b2Of c arg6 g6 k)
/-- The row of logits after trip `k`'s store; -/
abbrev accNext (g9 : Buf (Elt F) (hM.view.loc (c : Thread nD τ))) (g6 : Buf (Elt F) (arg6.view.loc (c : Thread nD τ))) (k : Fin k0_t1_loop.trips)
    (fA : Buf (Elt F) (accM.view.loc (c : Thread nD τ))) : Buf (Elt F) (accM.view.loc (c : Thread nD τ)) :=
  accM.view.writes (Elt F) fA [⟨Rect.unit (s := S1x300000) (k0_off6 k) S1x16384.size (k0_off6_inb k), valOf c XA arg6 g9 g6 k⟩]
/-- the running sums after it. -/
abbrev sumNext (g9 : Buf (Elt F) (hM.view.loc (c : Thread nD τ))) (g6 : Buf (Elt F) (arg6.view.loc (c : Thread nD τ))) (k : Fin k0_t1_loop.trips)
    (acc : FVec F S1x16384 .f32) : FVec F S1x16384 .f32 :=
  k0_pay11 acc (chunk c XA (Ring.bk 18 k.val)) (hOf c g9) (b2Of c arg6 g6 k)

/-- ONE TRIP, in any of the first fourteen: the block of the trip is waited for, its logits are stored and summed, and
    the block four further on is sent for into the slot just read. -/
theorem tripRun_issue (g9 : Buf (Elt F) (hM.view.loc (c : Thread nD τ))) (g6 : Buf (Elt F) (arg6.view.loc (c : Thread nD τ))) (k : Fin k0_t1_loop.trips) (acc : FVec F S1x16384 .f32) (fA : Buf (Elt F) (accM.view.loc (c : Thread nD τ))) (h4 : k.val + 4 < 18) :
    resAt c XA arg6 g9 g6 k fA ⊢ wp frame (wpE (defs₀ (F := F)) 𝒱₀ (c : Thread nD τ) none) Set.univ
      (tripG i arg2 harg2 arg3 harg3 arg4 harg4 arg6 harg6 arg7 harg7 k acc)
      (fun r => iprop(⌜r = sumNext c XA arg6 g9 g6 k acc⌝ ∗ resAt c XA arg6 g9 g6 (k.val + 1) (accNext c XA arg6 g9 g6 k fA))) := by
  have hk : k.val < 18 := by omega
  have hc : k0_cond1 k = 1#1 := (cond_iff k).2 h4
  have ec := chunk_read c XA (Ring.sl 4 k.val) (Ring.bk 18 k.val) (rslot (Ring.sl 4 k.val)).view.junk
    ((k0_off4_eq k).trans (slotOff_k k)) (k0_off4_inb k)
  unfold resAt
  rw [homes_here c XA k.val h4, homes_next c XA k.val h4, show k.val + 1 + 3 = k.val + 4 from rfl, roleP_lt c XA hk, roleP_lt c XA h4, sl_add4]
  iintro ⟨HA, HH, HB, ⟨%W, HW⟩, ⟨Hg, Hrest⟩, ⟨%f0, HF0⟩, HR1, HR2, HR3⟩
  dsimp only [tripG]
  sl_unfold [k0_t1_body]
  sl_exec
  sl_step
  isplitr; · ipureintro; rfl
  isplitl [HA]; · iexact HA
  isplitl [HH]; · iexact HH
  isplitl [HB]; · iexact HB
  isplitl [HW]; · iexists _; iexact HW
  isplitl [HF0_src Hrest]
  · isplitl [HF0_src]; · iexact HF0_src
    iexact Hrest
  isplitl [HR1]; · iexact HR1
  isplitl [HR2]; · iexact HR2
  isplitl [HR3]; · iexact HR3
  iexists ((rslot (Ring.sl 4 k.val)).view.writes (Elt F) (rslot (Ring.sl 4 k.val)).view.junk [⟨Rect.whole S16384x128, payload c XA (Ring.bk 18 k.val)⟩])
  irw [flightP_after]
  iexact HF0

/-- ONE TRIP, in any of the last four: the same with nothing sent for. -/
theorem tripRun_last (g9 : Buf (Elt F) (hM.view.loc (c : Thread nD τ))) (g6 : Buf (Elt F) (arg6.view.loc (c : Thread nD τ))) (k : Fin k0_t1_loop.trips) (acc : FVec F S1x16384 .f32) (fA : Buf (Elt F) (accM.view.loc (c : Thread nD τ))) (h4 : ¬ k.val + 4 < 18) :
    resAt c XA arg6 g9 g6 k fA ⊢ wp frame (wpE (defs₀ (F := F)) 𝒱₀ (c : Thread nD τ) none) Set.univ
      (tripG i arg2 harg2 arg3 harg3 arg4 harg4 arg6 harg6 arg7 harg7 k acc)
      (fun r => iprop(⌜r = sumNext c XA arg6 g9 g6 k acc⌝ ∗ resAt c XA arg6 g9 g6 (k.val + 1) (accNext c XA arg6 g9 g6 k fA))) := by
  have hk : k.val < 18 := trip_lt k
  have hc : ¬ k0_cond1 k = 1#1 := fun h => h4 ((cond_iff k).1 h)
  have ec := chunk_read c XA (Ring.sl 4 k.val) (Ring.bk 18 k.val) (rslot (Ring.sl 4 k.val)).view.junk
    ((k0_off4_eq k).trans (slotOff_k k)) (k0_off4_inb k)
  unfold resAt
  rw [homes_tail c XA k.val (by omega) hk, show k.val + 1 + 3 = k.val + 4 from rfl, roleP_lt c XA hk, roleP_ge c XA h4, sl_add4]
  iintro ⟨HA, HH, HB, ⟨%W, HW⟩, Hrest, ⟨%f0, HF0⟩, HR1, HR2, HR3⟩
  dsimp only [tripG]
  sl_unfold [k0_t1_body]
  sl_exec
  sl_step
  isplitr; · ipureintro; rfl
  isplitl [HA]; · iexact HA
  isplitl [HH]; · iexact HH
  isplitl [HB]; · iexact HB
  isplitl [HW]; · iexists _; iexact HW
  isplitl [HF0_src Hrest]
  · isplitl [HF0_src]; · iexact HF0_src
    iexact Hrest
  isplitl [HR1]; · iexact HR1
  isplitl [HR2]; · iexact HR2
  isplitl [HR3]; · iexact HR3
  isplitl [HF0_dst]; · iexists _; iexact HF0_dst
  iexact HF0

/-- The running sums before trip `k`; -/
def sumAt (g9 : Buf (Elt F) (hM.view.loc (c : Thread nD τ))) (g6 : Buf (Elt F) (arg6.view.loc (c : Thread nD τ))) : ℕ → FVec F S1x16384 .f32
  | 0 => k0_pay8
  | k + 1 => if h : k < k0_t1_loop.trips then sumNext c XA arg6 g9 g6 ⟨k, h⟩ (sumAt g9 g6 k) else sumAt g9 g6 k
/-- the row of logits before it, from contents `fA` at the first. -/
def accAt (g9 : Buf (Elt F) (hM.view.loc (c : Thread nD τ))) (g6 : Buf (Elt F) (arg6.view.loc (c : Thread nD τ))) (fA : Buf (Elt F) (accM.view.loc (c : Thread nD τ))) :
    ℕ → Buf (Elt F) (accM.view.loc (c : Thread nD τ))
  | 0 => fA
  | k + 1 => if h : k < k0_t1_loop.trips then accNext c XA arg6 g9 g6 ⟨k, h⟩ (accAt g9 g6 fA k) else accAt g9 g6 fA k

theorem sumAt_zero (g9 : Buf (Elt F) (hM.view.loc (c : Thread nD τ))) (g6 : Buf (Elt F) (arg6.view.loc (c : Thread nD τ))) :
    sumAt c XA arg6 g9 g6 0 = k0_pay8 := rfl
theorem accAt_zero (g9 : Buf (Elt F) (hM.view.loc (c : Thread nD τ))) (g6 : Buf (Elt F) (arg6.view.loc (c : Thread nD τ))) (fA : Buf (Elt F) (accM.view.loc (c : Thread nD τ))) :
    accAt c XA arg6 g9 g6 fA 0 = fA := rfl
/-- One trip adds one block's sums; -/
theorem sumAt_succ (g9 : Buf (Elt F) (hM.view.loc (c : Thread nD τ))) (g6 : Buf (Elt F) (arg6.view.loc (c : Thread nD τ))) (k : Fin k0_t1_loop.trips) :
    sumAt c XA arg6 g9 g6 (k.val + 1) = sumNext c XA arg6 g9 g6 k (sumAt c XA arg6 g9 g6 k) := by
  rw [sumAt, dif_pos k.isLt]
/-- and stores one block's logits. -/
theorem accAt_succ (g9 : Buf (Elt F) (hM.view.loc (c : Thread nD τ))) (g6 : Buf (Elt F) (arg6.view.loc (c : Thread nD τ))) (fA : Buf (Elt F) (accM.view.loc (c : Thread nD τ)))
    (k : Fin k0_t1_loop.trips) : accAt c XA arg6 g9 g6 fA (k.val + 1) = accNext c XA arg6 g9 g6 k (accAt c XA arg6 g9 g6 fA k) := by
  rw [accAt, dif_pos k.isLt]

attribute [irreducible] sumAt accAt

set_option warn.classDefReducibility false in
/-- THE LOOP'S INVARIANT: before trip `k` the carried vector is the running sums and the resources are `resAt`. -/
def loopInv1 (g9 : Buf (Elt F) (hM.view.loc (c : Thread nD τ))) (g6 : Buf (Elt F) (arg6.view.loc (c : Thread nD τ))) (fA : Buf (Elt F) (accM.view.loc (c : Thread nD τ))) :
    LoopInvTy_k0_t1 (F := F) Unit ℕ (UU nD τ) ℕ 𝒱₀ c none Set.univ i tabM (Memref.isWhole_whole _) arg2 harg2 arg3 harg3 arg4 harg4 wM (Memref.isWhole_whole _) arg6 harg6 arg7 harg7
      accM (Memref.isWhole_whole _) hM (Memref.isWhole_whole _) bufM (Memref.isWhole_whole _) tailM (Memref.isWhole_whole _) cc0_scratch4 cc0_scratch5 k0_pay8 where
  inv k acc := iprop(⌜acc = sumAt c XA arg6 g9 g6 k⌝ ∗ resAt c XA arg6 g9 g6 k (accAt c XA arg6 g9 g6 fA k))
  step k acc := by
    rw [sumAt_succ, accAt_succ]
    iintro ⟨%ha, H⟩
    subst ha
    by_cases h4 : k.val + 4 < 18
    · iapply (tripRun_issue c XA i arg2 harg2 arg3 harg3 arg4 harg4 arg6 harg6 arg7 harg7 g9 g6 k _ _ h4); iexact H
    · iapply (tripRun_last c XA i arg2 harg2 arg3 harg3 arg4 harg4 arg6 harg6 arg7 harg7 g9 g6 k _ _ h4); iexact H

end Trip

end Cert.Proof.KernelIdealRun

end
-- ==== Proof.KernelIdeal.Body.lean ====
/-
  The kernel's body: what it is handed, what it hands back, and its run.
-/
module

public import proofs.«01_k».proof.Proof.KernelIdeal.Trip

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (XA : Buf (Elt F) (wM.view.loc (c : Thread nD τ)))
  (i : grid0.Coords)
  (arg2 : Memref sig .tc .vmem S64x128 .f32) (harg2 : arg2.IsWhole)
  (arg3 : Memref sig .tc .vmem S64x128 .f32) (harg3 : arg3.IsWhole)
  (arg4 : Memref sig .tc .vmem S1x128 .f32) (harg4 : arg4.IsWhole)
  (arg6 : Memref sig .tc .vmem S300000 .f32) (harg6 : arg6.IsWhole)
  (arg7 : Memref sig .tc .vmem S3x100000 .f32) (harg7 : arg7.IsWhole)

/-- The body on the kernel's operands. -/
abbrev bodyG : Prog (TpuEff nD τ sig (Elt F) Λ₀ .tc) PUnit :=
  cc0__fused_kernel (F := F) i tabM (Memref.isWhole_whole _) arg2 harg2 arg3 harg3 arg4 harg4 wM (Memref.isWhole_whole _) arg6 harg6 arg7 harg7
    accM (Memref.isWhole_whole _) hM (Memref.isWhole_whole _) bufM (Memref.isWhole_whole _) tailM (Memref.isWhole_whole _) cc0_scratch4 cc0_scratch5

/-- The index table held at share `q`; -/
abbrev tabP (q : PosShare TreeShare) (f : Buf (Elt F) (tabM.view.loc (c : Thread nD τ))) : sProp 𝕄 := tabM.view.loc (c : Thread nD τ) ↦[tabM.view.set]{q} f
/-- the block of the embedding table; -/
abbrev embP (f : Buf (Elt F) (arg2.view.loc (c : Thread nD τ))) : sProp 𝕄 := arg2.view.loc (c : Thread nD τ) ↦[arg2.view.set]{fullShare} f
/-- the first weights; -/
abbrev w1P (f : Buf (Elt F) (arg3.view.loc (c : Thread nD τ))) : sProp 𝕄 := arg3.view.loc (c : Thread nD τ) ↦[arg3.view.set]{fullShare} f
/-- the first bias; -/
abbrev b1P (f : Buf (Elt F) (arg4.view.loc (c : Thread nD τ))) : sProp 𝕄 := arg4.view.loc (c : Thread nD τ) ↦[arg4.view.set]{fullShare} f
/-- the output's buffer; -/
abbrev outP (f : Buf (Elt F) (arg7.view.loc (c : Thread nD τ))) : sProp 𝕄 := arg7.view.loc (c : Thread nD τ) ↦[arg7.view.set]{fullShare} f
/-- the buffer of the last rows. -/
abbrev tailP (f : Buf (Elt F) (tailM.view.loc (c : Thread nD τ))) : sProp 𝕄 := tailM.view.loc (c : Thread nD τ) ↦[tailM.view.set]{fullShare} f

theorem sl4_0 : Ring.sl 4 0 = 0 := Fin.ext (by rfl)
theorem sl4_1 : Ring.sl 4 (0 + 1) = 1 := Fin.ext (by rfl)
theorem sl4_2 : Ring.sl 4 (0 + 2) = 2 := Fin.ext (by rfl)
theorem sl4_3 : Ring.sl 4 (0 + 3) = 3 := Fin.ext (by rfl)
theorem bk18_0 : Ring.bk 18 0 = 0 := Fin.ext (by rfl)
theorem bk18_1 : Ring.bk 18 (0 + 1) = 1 := Fin.ext (by rfl)
theorem bk18_2 : Ring.bk 18 (0 + 2) = 2 := Fin.ext (by rfl)
theorem bk18_3 : Ring.bk 18 (0 + 3) = 3 := Fin.ext (by rfl)
theorem role0 : roleP c XA 0 = iprop(∃ f, flightP c XA 0 0 f) := by rw [roleP_lt c XA (by decide), sl4_0, bk18_0]
theorem role1 : roleP c XA (0 + 1) = iprop(∃ f, flightP c XA 1 1 f) := by rw [roleP_lt c XA (by decide), sl4_1, bk18_1]
theorem role2 : roleP c XA (0 + 2) = iprop(∃ f, flightP c XA 2 2 f) := by rw [roleP_lt c XA (by decide), sl4_2, bk18_2]
theorem role3 : roleP c XA (0 + 3) = iprop(∃ f, flightP c XA 3 3 f) := by rw [roleP_lt c XA (by decide), sl4_3, bk18_3]

theorem role_of0 (f) : flightP c XA 0 0 f ⊢ roleP c XA 0 := by rw [role0]; iintro H; iexists f; iexact H
theorem role_of1 (f) : flightP c XA 1 1 f ⊢ roleP c XA (0 + 1) := by rw [role1]; iintro H; iexists f; iexact H
theorem role_of2 (f) : flightP c XA 2 2 f ⊢ roleP c XA (0 + 2) := by rw [role2]; iintro H; iexists f; iexact H
theorem role_of3 (f) : flightP c XA 3 3 f ⊢ roleP c XA (0 + 3) := by rw [role3]; iintro H; iexists f; iexact H

/-- What the kernel holds of its own through the region: the matrix by blocks, the ring's slots, the semaphores. -/
def OWN : sProp 𝕄 :=
  iprop(bigSep Finset.univ (homeP c XA) ∗ homeT c XA
    ∗ (∃ f, slotP c 0 f) ∗ (∃ f, slotP c 1 f) ∗ (∃ f, slotP c 2 f) ∗ (∃ f, slotP c 3 f)
    ∗ (∃ f, tailP c f) ∗ (∃ f, accP c f) ∗ (∃ f, hP c f)
    ∗ cellP c 0 ∗ cellP c 1 ∗ cellP c 2 ∗ cellP c 3 ∗ cellT c)

section Out
variable (gT : Buf (Elt F) (tabM.view.loc (c : Thread nD τ)))
    (g2 : Buf (Elt F) (arg2.view.loc (c : Thread nD τ))) (g3 : Buf (Elt F) (arg3.view.loc (c : Thread nD τ)))
    (g4 : Buf (Elt F) (arg4.view.loc (c : Thread nD τ))) (g6 : Buf (Elt F) (arg6.view.loc (c : Thread nD τ)))
    (g7 : Buf (Elt F) (arg7.view.loc (c : Thread nD τ))) (fA : Buf (Elt F) (accM.view.loc (c : Thread nD τ)))

/-- The index the body reads. -/
abbrev wordOf : BitVec 32 := tabM.view.readAt (Elt F) (Rect.unit (s := S1) ![0] S1.size inb_S1_S1_0).toLoadRect gT (Shape.Idx.first (by decide))
/-- The hidden column it computes. -/
abbrev hVec : FVec F S128x1 .f32 :=
  k0_pay7 (F := F) (wordOf c gT) (arg2.view.readAt (Elt F) (Rect.unit (s := S64x128) ![0, 0] S64x128.size inb_S64x128_S64x128_0_0).toLoadRect g2)
    (arg3.view.readAt (Elt F) (Rect.unit (s := S64x128) ![0, 0] S64x128.size inb_S64x128_S64x128_0_0).toLoadRect g3)
    (arg4.view.readAt (Elt F) (Rect.unit (s := S1x128) ![0, 0] S1x128.size inb_S1x128_S1x128_0_0).toLoadRect g4)
/-- The hidden column's buffer once it is stored. -/
abbrev g9Of : Buf (Elt F) (hM.view.loc (c : Thread nD τ)) :=
  hM.view.writes (Elt F) hM.view.junk [⟨Rect.unit (s := S128x1) ![0, 0] S128x1.size inb_S128x1_S128x1_0_0, hVec c arg2 arg3 arg4 gT g2 g3 g4⟩]
/-- The last rows as they are copied. -/
abbrev tailV : Vec F S5088x128 .f32 := ReadAs.same.apply (grpT.view.read (Elt F) XA)
/-- The last rows as they are read back. -/
abbrev tailRd : Vec F S5088x128 .f32 :=
  tailM.view.readCov [⟨Rect.whole S5088x128, tailV c XA⟩] (Rect.unit (s := S5088x128) ![0, 0] S5088x128.size inb_S5088x128_S5088x128_0_0).toLoadRect
/-- The last entries of the second bias. -/
abbrev b2T : Vec F S5088 .f32 := arg6.view.readAt (Elt F) (Rect.unit (s := S300000) ![294912] S5088.size inb_S300000_S5088_294912).toLoadRect g6
/-- The row of logits after the loop. -/
abbrev accLoop : Buf (Elt F) (accM.view.loc (c : Thread nD τ)) :=
  accAt c XA arg6 (g9Of c arg2 arg3 arg4 gT g2 g3 g4) g6 fA (Scf.trips k0_t1_loop.lb k0_t1_loop.ub k0_t1_loop.st)
/-- The row of logits once it is complete. -/
def accFin : Buf (Elt F) (accM.view.loc (c : Thread nD τ)) :=
  accM.view.writes (Elt F) (accLoop c XA arg2 arg3 arg4 arg6 gT g2 g3 g4 g6 fA)
    [⟨Rect.unit (s := S1x300000) ![0, 294912] S1x5088.size inb_S1x300000_S1x5088_0_294912,
      k0_pay2 (tailRd c XA) (hOf c (g9Of c arg2 arg3 arg4 gT g2 g3 g4)) (b2T c arg6 g6)⟩]
/-- The running sums once every block was summed. -/
abbrev sumFin : FVec F S1x16384 .f32 := sumAt c XA arg6 (g9Of c arg2 arg3 arg4 gT g2 g3 g4) g6 (Scf.trips k0_t1_loop.lb k0_t1_loop.ub k0_t1_loop.st)
/-- What the body leaves in the output's buffer. -/
def outOf : Buf (Elt F) (arg7.view.loc (c : Thread nD τ)) :=
  arg7.view.writes (Elt F) g7
    [⟨Rect.unit (s := S3x100000) ![2, 0] S1x100000.size inb_S3x100000_S1x100000_2_0,
        k0_pay6 (sumFin c XA arg2 arg3 arg4 arg6 gT g2 g3 g4 g6) (tailRd c XA) (hOf c (g9Of c arg2 arg3 arg4 gT g2 g3 g4)) (b2T c arg6 g6)
          (accM.view.readAt (Elt F) (Rect.unit (s := S1x300000) ![0, 200000] S1x100000.size inb_S1x300000_S1x100000_0_200000).toLoadRect (accFin c XA arg2 arg3 arg4 arg6 gT g2 g3 g4 g6 fA))⟩,
      ⟨Rect.unit (s := S3x100000) ![1, 0] S1x100000.size inb_S3x100000_S1x100000_1_0,
        k0_pay5 (sumFin c XA arg2 arg3 arg4 arg6 gT g2 g3 g4 g6) (tailRd c XA) (hOf c (g9Of c arg2 arg3 arg4 gT g2 g3 g4)) (b2T c arg6 g6)
          (accM.view.readAt (Elt F) (Rect.unit (s := S1x300000) ![0, 100000] S1x100000.size inb_S1x300000_S1x100000_0_100000).toLoadRect (accLoop c XA arg2 arg3 arg4 arg6 gT g2 g3 g4 g6 fA))⟩,
      ⟨Rect.unit (s := S3x100000) ![0, 0] S1x100000.size inb_S3x100000_S1x100000_0_0,
        k0_pay4 (sumFin c XA arg2 arg3 arg4 arg6 gT g2 g3 g4 g6) (tailRd c XA) (hOf c (g9Of c arg2 arg3 arg4 gT g2 g3 g4)) (b2T c arg6 g6)
          (accM.view.readAt (Elt F) (Rect.unit (s := S1x300000) ![0, 0] S1x100000.size inb_S1x300000_S1x100000_0_0).toLoadRect (accLoop c XA arg2 arg3 arg4 arg6 gT g2 g3 g4 g6 fA))⟩]

end Out

/-- After the loop the four slots and their semaphores are free. -/
theorem roles_end (T : ℕ) (hT : T = 18) :
    iprop(roleP c XA T ∗ roleP c XA (T + 1) ∗ roleP c XA (T + 2) ∗ roleP c XA (T + 3))
      ⊢ iprop((∃ f, slotP c 0 f) ∗ (∃ f, slotP c 1 f) ∗ (∃ f, slotP c 2 f) ∗ (∃ f, slotP c 3 f) ∗ cellP c 0 ∗ cellP c 1 ∗ cellP c 2 ∗ cellP c 3) := by
  subst hT
  rw [roleP_ge c XA (p := 18) (by decide), roleP_ge c XA (p := 18 + 1) (by decide), roleP_ge c XA (p := 18 + 2) (by decide), roleP_ge c XA (p := 18 + 3) (by decide),
    show Ring.sl 4 18 = 2 from Fin.ext (by rfl), show Ring.sl 4 (18 + 1) = 3 from Fin.ext (by rfl), show Ring.sl 4 (18 + 2) = 0 from Fin.ext (by rfl),
    show Ring.sl 4 (18 + 3) = 1 from Fin.ext (by rfl)]
  iintro ⟨⟨H2, C2⟩, ⟨H3, C3⟩, ⟨H0, C0⟩, H1, C1⟩
  isplitl [H0]; · iexact H0
  isplitl [H1]; · iexact H1
  isplitl [H2]; · iexact H2
  isplitl [H3]; · iexact H3
  isplitl [C0]; · iexact C0
  isplitl [C1]; · iexact C1
  isplitl [C2]; · iexact C2
  iexact C3

/-- After the loop every block is home. -/
theorem homes_end (T : ℕ) (hT : T = 18) :
    bigSep (Ring.homeSet 4 T) (homeP c XA) ⊢ bigSep Finset.univ (homeP c XA) := by
  rw [Ring.homeSet_last 4 T (by omega)]
/-- At the start the first four blocks stand apart from the rest. -/
theorem homes_zero : bigSep Finset.univ (homeP c XA)
    = iprop(homeP c XA 0 ∗ homeP c XA 1 ∗ homeP c XA 2 ∗ homeP c XA 3 ∗ bigSep (Ring.homeSet 4 0) (homeP c XA)) := by
  have e : (Finset.univ : Finset (Fin 18)) = insert 0 (insert 1 (insert 2 (insert 3 (Ring.homeSet (NB := 18) 4 0)))) := by decide
  rw [e, bigSep_insert (by decide), bigSep_insert (by decide), bigSep_insert (by decide), bigSep_insert (by decide)]; rfl

/-- THE BODY: the embedding row is selected and the hidden column stored, the first four blocks and the last rows are
    sent for, the loop runs by its invariant, the last rows are waited for, and the three output rows are stored. -/
theorem bodyRun (q : PosShare TreeShare) (gT : Buf (Elt F) (tabM.view.loc (c : Thread nD τ)))
    (g2 : Buf (Elt F) (arg2.view.loc (c : Thread nD τ))) (g3 : Buf (Elt F) (arg3.view.loc (c : Thread nD τ)))
    (g4 : Buf (Elt F) (arg4.view.loc (c : Thread nD τ))) (g6 : Buf (Elt F) (arg6.view.loc (c : Thread nD τ)))
    (g7 : Buf (Elt F) (arg7.view.loc (c : Thread nD τ))) (W : Waits sig Unit) (Q : PUnit → sProp 𝕄) :
    iprop((tabP c q gT ∗ embP c arg2 g2 ∗ w1P c arg3 g3 ∗ b1P c arg4 g4 ∗ b2P c arg6 g6 ∗ outP c arg7 g7 ∗ OWN c XA ∗ owes (c : Thread nD τ) 0 W)
      ∗ ((∃ fA W', tabP c q gT ∗ embP c arg2 g2 ∗ w1P c arg3 g3 ∗ b1P c arg4 g4 ∗ b2P c arg6 g6
          ∗ outP c arg7 (outOf c XA arg2 arg3 arg4 arg6 arg7 gT g2 g3 g4 g6 g7 fA) ∗ OWN c XA ∗ owes (c : Thread nD τ) 0 W') -∗ Q ⟨⟩))
      ⊢ wp frame (wpE (defs₀ (F := F)) 𝒱₀ (c : Thread nD τ) none) Set.univ (bodyG i arg2 harg2 arg3 harg3 arg4 harg4 arg6 harg6 arg7 harg7) Q := by
  unfold OWN
  rw [homes_zero c XA]
  iintro ⟨⟨HT, HE, HW1, HB1, HB2, HO, ⟨⟨Hg0, Hg1, Hg2, Hg3, Hh⟩, HgT, ⟨%f0, Hs0⟩, ⟨%f1, Hs1⟩, ⟨%f2, Hs2⟩, ⟨%f3, Hs3⟩, ⟨%fT, HtB⟩, ⟨%fA, HA⟩, ⟨%fH, HH⟩, Hc0, Hc1, Hc2, Hc3, HcT⟩, HW⟩, Hk⟩
  sl_exec
  ihave R0 := (role_of0 c XA f0) $$ [Hc0]
  · iexact Hc0
  ihave R1 := (role_of1 c XA f1) $$ [Hc1]
  · iexact Hc1
  ihave R2 := (role_of2 c XA f2) $$ [Hc2]
  · iexact Hc2
  ihave R3 := (role_of3 c XA f3) $$ [Hc3]
  · iexact Hc3
  ihave HA' := (entails_of_eq (congrArg (accP c) (accAt_zero c XA arg6 (g9Of c arg2 arg3 arg4 gT g2 g3 g4) g6 fA).symm)) $$ [HA]
  · iexact HA
  have e0 := (sumAt_zero c XA arg6 (g9Of c arg2 arg3 arg4 gT g2 g3 g4) g6).symm
  let L := loopInv1 c XA i arg2 harg2 arg3 harg3 arg4 harg4 arg6 harg6 arg7 harg7 (g9Of c arg2 arg3 arg4 gT g2 g3 g4) g6 fA
  sl_exec
  sl_step
  iapply Hk
  iexists fA
  iexists _
  isplitl [HT]; · iexact HT
  isplitl [HE]; · iexact HE
  isplitl [HW1]; · iexact HW1
  isplitl [HB1]; · iexact HB1
  isplitl [HB2]; · iexact HB2
  isplitl [HO]; · iexact HO
  isplitr [HW]
  · ihave HR := (roles_end c XA _ trips_eq) $$ [R0 R1 R2 R3]
    · isplitl [R0]; · iexact R0
      isplitl [R1]; · iexact R1
      isplitl [R2]; · iexact R2
      iexact R3
    icases HR with ⟨Hs0, Hs1, Hs2, Hs3, Hc0, Hc1, Hc2, Hc3⟩
    isplitl [Hh]
    · irw [← homes_zero c XA]
      iapply (homes_end c XA _ trips_eq); iexact Hh
    isplitl [HgT]; · iexact HgT
    isplitl [Hs0]; · iexact Hs0
    isplitl [Hs1]; · iexact Hs1
    isplitl [Hs2]; · iexact Hs2
    isplitl [Hs3]; · iexact Hs3
    isplitl [HtB]; · iexists _; iexact HtB
    isplitl [HA']; · iexists _; iexact HA'
    isplitl [HH]; · iexists _; iexact HH
    isplitl [Hc0]; · iexact Hc0
    isplitl [Hc1]; · iexact Hc1
    isplitl [Hc2]; · iexact Hc2
    isplitl [Hc3]; · iexact Hc3
    iexact HcT
  iexact HW

end Body

end Cert.Proof.KernelIdealRun

end
-- ==== Proof.KernelIdeal.Sets.lean ====
/-
  The matrix is its eighteen blocks and its last rows; the ring is its four slots.
-/
module

public import proofs.«01_k».proof.Proof.KernelIdeal.Body

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The elements of block `b`, -/
abbrev GB (b : Fin 18) : Finset S300000x128.Idx := (Rect.unit (s := S300000x128) (grpOff b) S16384x128.size (grpOff_inb b)).set
/-- of the last rows, -/
abbrev GT : Finset S300000x128.Idx := (Rect.unit (s := S300000x128) ![294912, 0] S5088x128.size inb_S300000x128_S5088x128_294912_0).set
/-- of slot `s`. -/
abbrev SB (s : Fin 4) : Finset S4x16384x128.Idx := (Rect.unit (s := S4x16384x128) (slotOff s) S1x16384x128.size (slotOff_inb s)).set

theorem grp_set (b : Fin 18) : (grp b).view.set = GB b := View.set_slice_whole _ _
theorem grpT_set : grpT.view.set = GT := View.set_slice_whole _ _
theorem rslot_set (s : Fin 4) : (rslot s).view.set = SB s := (View.set_reshape _ _).trans (View.set_slice_whole _ _)

theorem mem_GB (b : Fin 18) (y : S300000x128.Idx) : y ∈ GB b ↔ (y 0).val / 16384 = b.val := by
  rw [Rect.mem_set_unit]
  have h1 : (y 1).val < 128 := (y 1).isLt
  constructor
  · intro H
    have a0 : 16384 * b.val ≤ (y 0).val ∧ (y 0).val < 16384 * b.val + 16384 := H 0
    omega
  · intro H i; fin_cases i
    · show 16384 * b.val ≤ (y 0).val ∧ (y 0).val < 16384 * b.val + 16384; omega
    · show 0 ≤ (y 1).val ∧ (y 1).val < 0 + 128; omega
theorem mem_GT (y : S300000x128.Idx) : y ∈ GT ↔ 294912 ≤ (y 0).val := by
  rw [Rect.mem_set_unit]
  have h0 : (y 0).val < 300000 := (y 0).isLt
  have h1 : (y 1).val < 128 := (y 1).isLt
  constructor
  · intro H
    have a0 : 294912 ≤ (y 0).val ∧ (y 0).val < 294912 + 5088 := H 0
    omega
  · intro H i; fin_cases i
    · show 294912 ≤ (y 0).val ∧ (y 0).val < 294912 + 5088; omega
    · show 0 ≤ (y 1).val ∧ (y 1).val < 0 + 128; omega
theorem mem_SB (s : Fin 4) (y : S4x16384x128.Idx) : y ∈ SB s ↔ (y 0).val = s.val := by
  rw [Rect.mem_set_unit]
  have h1 : (y 1).val < 16384 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16384; omega
    · show 0 ≤ (y 2).val ∧ (y 2).val < 0 + 128; omega

theorem GB_disjoint : ∀ b b' : Fin 18, b ≠ b' → Disjoint (GB b) (GB b') := by
  intro b b' hne; rw [Finset.disjoint_left]; intro y hy hy'; rw [mem_GB] at hy hy'; exact hne (Fin.ext (hy.symm.trans hy'))
theorem GB_GT_disjoint : Disjoint ((Finset.univ : Finset (Fin 18)).biUnion GB) GT := by
  rw [Finset.disjoint_left]; intro y hy hy'
  obtain ⟨b, -, hb⟩ := Finset.mem_biUnion.1 hy
  rw [mem_GB] at hb; rw [mem_GT] at hy'
  have := b.isLt; omega
theorem GB_GT_cover : (Finset.univ : Finset (Fin 18)).biUnion GB ∪ GT = Finset.univ := by
  ext y
  simp only [Finset.mem_union, Finset.mem_biUnion, Finset.mem_univ, true_and, iff_true]
  have h0 : (y 0).val < 300000 := (y 0).isLt
  rcases Nat.lt_or_ge (y 0).val 294912 with h | h
  · exact .inl ⟨⟨(y 0).val / 16384, by omega⟩, by rw [mem_GB]⟩
  · exact .inr (by rw [mem_GT]; exact h)
theorem SB_disjoint : ∀ s s' : Fin 4, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 4)).biUnion SB = Finset.univ := by
  ext y; simp only [Finset.mem_biUnion, Finset.mem_univ, true_and, iff_true]; exact ⟨(y 0).cast (by decide), by rw [mem_SB]; rfl⟩

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

section Split
variable (c : Dev nD) (XA : Buf (Elt F) (wM.view.loc (c : Thread nD τ)))

theorem homeP_eq (b : Fin 18) : homeP c XA b = (((c : Thread nD τ).loc main_v3) ↦[GB b]{fullShare} XA : sProp 𝕄) :=
  congrArg (fun S => (_ ↦[S]{fullShare} XA : sProp 𝕄)) (grp_set b)
theorem homeT_eq : homeT c XA = (((c : Thread nD τ).loc main_v3) ↦[GT]{fullShare} XA : sProp 𝕄) :=
  congrArg (fun S => (_ ↦[S]{fullShare} XA : sProp 𝕄)) grpT_set

/-- The matrix whole is its blocks and its last rows. -/
theorem mat_eq : (((c : Thread nD τ).loc main_v3) ↦{fullShare} XA : sProp 𝕄)
    = iprop(bigSep Finset.univ (homeP c XA) ∗ homeT c XA) := by
  rw [homeT_eq, show homeP c XA = fun b => (((c : Thread nD τ).loc main_v3) ↦[GB b]{fullShare} XA : sProp 𝕄) from funext (homeP_eq c XA),
    ← Ring.pointsTo_sub_blocks (ℓ := (c : Thread nD τ).loc main_v3) GB GB_disjoint _ rfl XA]
  have h := pointsTo_union (Ix := Unit) (Name := ℕ) (U := UU nD τ) (Lvl := ℕ) (q := fullShare) (f := XA) (ℓ := (c : Thread nD τ).loc main_v3) GB_GT_disjoint
  rw [GB_GT_cover] at h
  exact Idealize.SL.BI.Entails.antisymm h.1 h.2

theorem slotP_eq (s : Fin 4) (f) : slotP c s f = (((c : Thread nD τ).loc cc0_scratch2) ↦[SB s]{fullShare} f : sProp 𝕄) :=
  congrArg (fun S => (_ ↦[S]{fullShare} f : sProp 𝕄)) (rslot_set s)
/-- The ring whole is its four slots, -/
theorem buf_split :
    iprop(∃ f : Buf (Elt F) ((c : Thread nD τ).loc cc0_scratch2), ((c : Thread nD τ).loc cc0_scratch2) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) SB SB_disjoint SB_cover f).trans (bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
/-- and back. -/
theorem buf_join :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) SB SB_disjoint SB_cover f0)
  irw [bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

/-- The kernel's own semaphores: the slots' and the last rows'. -/
abbrev osem : Fin 5 → SemLoc sig := ![.dma (csm 0).sem, .dma (csm 1).sem, .dma (csm 2).sem, .dma (csm 3).sem, .dma cc0_scratch5.sem]
theorem ownSemFacts : Pipeline.OwnSemFacts spec0 osem := by decide
/-- At zero they are the slots' cells and the last rows'. -/
theorem ownSems0_eq : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellT c) := by
  unfold Pipeline.ownSems0; rw [bigSep_fin5]; rfl

end Split

end Cert.Proof.KernelIdealRun

end
-- ==== Proof.KernelIdeal.Reads.lean ====
/-
  What the arrays hold: the row of logits after the loop, and the output's buffer after the body.
-/
module

public import proofs.«01_k».proof.Proof.KernelIdeal.Body
public import Idealize.ShloMosaic.Lib.WritesUnit
public import Idealize.ShloMosaic.Lib.VecWindow
public import Idealize.ShloMosaic.Lib.ValueIdxCore

@[expose] public section

set_option maxRecDepth 16384

noncomputable section

namespace Cert.Proof.KernelIdealRun

open Cert.KernelIdeal Cert.KernelIdeal.Gen
open Idealize.ShloMosaic
open Idealize.ShloMosaic.TcCoe
open Idealize.ShloMosaic.ValueIdx

variable {F : FTy → Type} [FloatOps F]

section Reads

variable (c : Dev nD) (XA : Buf (Elt F) (wM.view.loc (c : Thread nD τ)))
  (arg2 : Memref sig .tc .vmem S64x128 .f32) (arg3 : Memref sig .tc .vmem S64x128 .f32)
  (arg4 : Memref sig .tc .vmem S1x128 .f32) (arg6 : Memref sig .tc .vmem S300000 .f32)
  (arg7 : Memref sig .tc .vmem S3x100000 .f32)

/-- Before trip `k` the row of logits holds, in its first `16384 k` columns, what the earlier trips stored. -/
theorem read_accAt (g9 : Buf (Elt F) (hM.view.loc (c : Thread nD τ))) (g6 : Buf (Elt F) (arg6.view.loc (c : Thread nD τ)))
    (fA : Buf (Elt F) (accM.view.loc (c : Thread nD τ))) :
    ∀ (k : ℕ) (hk : k ≤ k0_t1_loop.trips) (y : S1x300000.Idx) (b : Fin k0_t1_loop.trips) (x : S1x16384.Idx),
      b.val < k → (y 1).val = 16384 * b.val + (x 1).val →
      accM.view.read (Elt F) (accAt c XA arg6 g9 g6 fA k) y = valOf c XA arg6 g9 g6 b x
  | 0, _, _, _, _, hb, _ => absurd hb (Nat.not_lt_zero _)
  | k + 1, hk, y, b, x, hb, hy => by
    have hx1 : (x 1).val < 16384 := (x 1).isLt
    have hx0 : (x 0).val < 1 := (x 0).isLt
    have hy0 : (y 0).val < 1 := (y 0).isLt
    have e := accAt_succ c XA arg6 g9 g6 fA ⟨k, hk⟩
    rw [show k + 1 = (⟨k, hk⟩ : Fin k0_t1_loop.trips).val + 1 from rfl, e]
    rcases Nat.lt_or_ge b.val k with h | h
    · rw [accNext, View.read_writes_cons_unit_of_not_mem accM.view _ _ _ _ y (k0_off6_eq ⟨k, hk⟩) (1 : Fin 2) (Or.inl (by
        show (y 1).val < 16384 * k; omega)), View.writes_nil]
      exact read_accAt g9 g6 fA k (by omega) y b x h hy
    · have hb' : b = ⟨k, hk⟩ := Fin.ext (by show b.val = k; omega)
      subst hb'
      exact View.read_writes_cons_unit_of_mem accM.view _ _ _ _ y x (k0_off6_eq ⟨k, hk⟩) (fun a => by
        fin_cases a
        · show (y 0).val = 0 + (x 0).val; omega
        · exact hy)

variable (gT : Buf (Elt F) (tabM.view.loc (c : Thread nD τ)))
    (g2 : Buf (Elt F) (arg2.view.loc (c : Thread nD τ))) (g3 : Buf (Elt F) (arg3.view.loc (c : Thread nD τ)))
    (g4 : Buf (Elt F) (arg4.view.loc (c : Thread nD τ))) (g6 : Buf (Elt F) (arg6.view.loc (c : Thread nD τ)))
    (g7 : Buf (Elt F) (arg7.view.loc (c : Thread nD τ))) (fA : Buf (Elt F) (accM.view.loc (c : Thread nD τ)))

/-- The hidden column is read back as it was stored. -/
theorem hOf_eq : hOf c (g9Of c arg2 arg3 arg4 gT g2 g3 g4) = hVec c arg2 arg3 arg4 gT g2 g3 g4 :=
  View.readAt_writes_full hM.view _ _ _ _ _
/-- The last rows are read back as they were copied. -/
theorem tailRd_eq : tailRd c XA = tailV c XA := by
  unfold tailRd View.readCov
  rw [View.readAt_full]
  exact View.read_writes_whole _ _ _

/-- The logit of column `n`. -/
def logit (n : ℕ) : F .f32 :=
  if h : n < 294912 then
    valOf c XA arg6 (g9Of c arg2 arg3 arg4 gT g2 g3 g4) g6 ⟨n / 16384, by rw [trips_eq]; omega⟩ (ix2 0 ⟨n % 16384, Nat.mod_lt _ (by decide)⟩)
  else if h' : n < 300000 then k0_pay2 (tailRd c XA) (hOf c (g9Of c arg2 arg3 arg4 gT g2 g3 g4)) (b2T c arg6 g6) (ix2 0 ⟨n - 294912, by omega⟩)
  else Scalar.ofBits .f32 0#32

/-- After the loop the first 294912 columns are logits; -/
theorem read_accLoop (y : S1x300000.Idx) (n : ℕ) (hn : n < 294912) (hy : (y 1).val = n) :
    accM.view.read (Elt F) (accLoop c XA arg2 arg3 arg4 arg6 gT g2 g3 g4 g6 fA) y = logit c XA arg2 arg3 arg4 arg6 gT g2 g3 g4 g6 n := by
  unfold logit
  rw [dif_pos hn]
  exact read_accAt c XA arg6 _ g6 fA _ (le_refl _) y _ _ (by show n / 16384 < k0_t1_loop.trips; rw [trips_eq]; omega)
    (by show (y 1).val = 16384 * (n / 16384) + n % 16384; omega)
/-- with the last store all of them are. -/
theorem read_accFin (y : S1x300000.Idx) (n : ℕ) (hn : n < 300000) (hy : (y 1).val = n) :
    accM.view.read (Elt F) (accFin c XA arg2 arg3 arg4 arg6 gT g2 g3 g4 g6 fA) y = logit c XA arg2 arg3 arg4 arg6 gT g2 g3 g4 g6 n := by
  have hy0 : (y 0).val < 1 := (y 0).isLt
  unfold accFin
  rcases Nat.lt_or_ge n 294912 with h | h
  · rw [View.read_writes_cons_unit_of_not_mem accM.view _ _ _ _ y rfl (1 : Fin 2) (Or.inl (by
      show (y 1).val < 294912; omega)), View.writes_nil]
    exact read_accLoop c XA arg2 arg3 arg4 arg6 gT g2 g3 g4 g6 fA y n h hy
  · unfold logit
    rw [dif_neg (by omega), dif_pos hn]
    exact View.read_writes_cons_unit_of_mem accM.view _ _ _ _ y (ix2 0 ⟨n - 294912, by omega⟩) rfl (fun a => by
      fin_cases a
      · show (y 0).val = 0 + 0; omega
      · show (y 1).val = 294912 + (n - 294912); omega)

/-- Row `r` of the output before the normaliser is subtracted. -/
def rowOf (r : ℕ) : Vec F S1x100000 .f32 := fun x => logit c XA arg2 arg3 arg4 arg6 gT g2 g3 g4 g6 (100000 * r + (x 1).val)
/-- What the body leaves in the output's buffer, entry by entry. -/
def outVec : Vec F S3x100000 .f32 := fun y =>
  k0_pay4 (sumFin c XA arg2 arg3 arg4 arg6 gT g2 g3 g4 g6) (tailRd c XA) (hOf c (g9Of c arg2 arg3 arg4 gT g2 g3 g4)) (b2T c arg6 g6)
    (rowOf c XA arg2 arg3 arg4 arg6 gT g2 g3 g4 g6 (y 0).val) (ix2 0 ⟨(y 1).val, (y 1).isLt⟩)

theorem row2 : accM.view.readAt (Elt F) (Rect.unit (s := S1x300000) ![0, 200000] S1x100000.size inb_S1x300000_S1x100000_0_200000).toLoadRect
    (accFin c XA arg2 arg3 arg4 arg6 gT g2 g3 g4 g6 fA) = rowOf c XA arg2 arg3 arg4 arg6 gT g2 g3 g4 g6 2 := by
  funext x
  have hx : (x 1).val < 100000 := (x 1).isLt
  rw [View.readAt_apply]
  exact read_accFin c XA arg2 arg3 arg4 arg6 gT g2 g3 g4 g6 fA _ _ (by omega) (by show 200000 + 1 * (x 1).val = 100000 * 2 + (x 1).val; omega)
theorem row1 : accM.view.readAt (Elt F) (Rect.unit (s := S1x300000) ![0, 100000] S1x100000.size inb_S1x300000_S1x100000_0_100000).toLoadRect
    (accLoop c XA arg2 arg3 arg4 arg6 gT g2 g3 g4 g6 fA) = rowOf c XA arg2 arg3 arg4 arg6 gT g2 g3 g4 g6 1 := by
  funext x
  have hx : (x 1).val < 100000 := (x 1).isLt
  rw [View.readAt_apply]
  exact read_accLoop c XA arg2 arg3 arg4 arg6 gT g2 g3 g4 g6 fA _ _ (by omega) (by show 100000 + 1 * (x 1).val = 100000 * 1 + (x 1).val; omega)
theorem row0 : accM.view.readAt (Elt F) (Rect.unit (s := S1x300000) ![0, 0] S1x100000.size inb_S1x300000_S1x100000_0_0).toLoadRect
    (accLoop c XA arg2 arg3 arg4 arg6 gT g2 g3 g4 g6 fA) = rowOf c XA arg2 arg3 arg4 arg6 gT g2 g3 g4 g6 0 := by
  funext x
  have hx : (x 1).val < 100000 := (x 1).isLt
  rw [View.readAt_apply]
  exact read_accLoop c XA arg2 arg3 arg4 arg6 gT g2 g3 g4 g6 fA _ _ (by omega) (by show 0 + 1 * (x 1).val = 100000 * 0 + (x 1).val; omega)

/-- The output's buffer after the body reads as `outVec`. -/
theorem read_outOf : arg7.view.read (Elt F) (outOf c XA arg2 arg3 arg4 arg6 arg7 gT g2 g3 g4 g6 g7 fA)
    = outVec c XA arg2 arg3 arg4 arg6 gT g2 g3 g4 g6 := by
  funext y
  have hy0 : (y 0).val < 3 := (y 0).isLt
  unfold outOf
  rw [row0, row1, row2]
  rcases Nat.lt_or_ge (y 0).val 2 with h | h
  · rw [View.read_writes_cons_unit_of_not_mem arg7.view _ _ _ _ y rfl (0 : Fin 2) (Or.inl (by show (y 0).val < 2; omega))]
    rcases Nat.lt_or_ge (y 0).val 1 with h | h
    · rw [View.read_writes_cons_unit_of_not_mem arg7.view _ _ _ _ y rfl (0 : Fin 2) (Or.inl (by show (y 0).val < 1; omega))]
      have e : (y 0).val = 0 := by omega
      unfold outVec; rw [e]
      exact View.read_writes_cons_unit_of_mem arg7.view _ _ _ _ y (ix2 0 ⟨(y 1).val, (y 1).isLt⟩) rfl (fun a => by
        fin_cases a
        · exact e
        · show (y 1).val = 0 + (y 1).val; omega)
    · have e : (y 0).val = 1 := by omega
      unfold outVec; rw [e]
      exact View.read_writes_cons_unit_of_mem arg7.view _ _ _ _ y (ix2 0 ⟨(y 1).val, (y 1).isLt⟩) rfl (fun a => by
        fin_cases a
        · exact e
        · show (y 1).val = 0 + (y 1).val; omega)
  · have e : (y 0).val = 2 := by omega
    unfold outVec; rw [e]
    exact View.read_writes_cons_unit_of_mem arg7.view _ _ _ _ y (ix2 0 ⟨(y 1).val, (y 1).isLt⟩) rfl (fun a => by
      fin_cases a
      · exact e
      · show (y 1).val = 0 + (y 1).val; omega)

end Reads

end Cert.Proof.KernelIdealRun

end
-- ==== Proof.KernelIdeal.Launch.lean ====
/-
  The launch: from any memory whose index is in range the program runs, the result's array holds what the body
  computes, and every argument keeps its contents.
-/
module

public import proofs.«01_k».proof.Proof.KernelIdeal.Sets
public import proofs.«01_k».proof.Proof.KernelIdeal.Reads
public import proofs.«01_k».proof.Proof.Gen.KernelIdeal.Launch

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UU nD τ) ℕ

section Launch

variable (m : (ℓ : Loc nD τ sig) → Buf (Elt F) ℓ)

/-- A buffer's contents as the pallas_call finds it: the host's transposes, padding and reshape done. -/
def V (c : Dev nD) (b : Ref sig .tc) : Buf (Elt F) ((c : Thread nD τ).loc b) :=
  StableHlo.after hostOps0 (fun b => m (c, b)) b
/-- The index table. -/
def tbl : pre0.Contents (Elt F) := fun j => V m (0 : Dev nD) (pre0.ref j)
/-- The block of the embedding table that the index picks lies inside it. -/
abbrev Ok : Prop := ok0 (F := F) (tbl m)
variable (hO : Ok m)
abbrev adm : (pcfg0 (F := F)).Adm := ⟨tbl m, hO⟩
abbrev adms : (p : Fin 1) → (pcfgs (F := F) p).Adm := fun _ => adm m hO
abbrev cfgM : Pipeline.Cfg sig Λ₀ := cfg0 (adm m hO)

/-- What the region holds through its one point: the kernel's own, the generator's register, half of the index. -/
def Φ (c : Dev nD) : sProp 𝕄 :=
  iprop(OWN c (V m c main_v3) ∗ (∃ r, prngReg c r) ∗ tabP c fullShare.right (tbl m 0))

abbrev st0 (t : Fin (cfgM m hO).N) : Memref sig .tc .vmem S64x128 .f32 := spec0_0.stage ((cfgM m hO).slots t 0)
abbrev st1 (t : Fin (cfgM m hO).N) : Memref sig .tc .vmem S64x128 .f32 := spec0_1.stage ((cfgM m hO).slots t 1)
abbrev st2 (t : Fin (cfgM m hO).N) : Memref sig .tc .vmem S1x128 .f32 := spec0_2.stage ((cfgM m hO).slots t 2)
abbrev st3 (t : Fin (cfgM m hO).N) : Memref sig .tc .vmem S300000 .f32 := spec0_3.stage ((cfgM m hO).slots t 3)
abbrev st4 (t : Fin (cfgM m hO).N) : Memref sig .tc .vmem S3x100000 .f32 := spec0_4.stage ((cfgM m hO).slots t 4)

/-- Window `w`'s block, read off its array. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the result's buffer. -/
def outAt (c : Dev nD) (t : Fin (cfgM m hO).N) : Vec F S3x100000 .f32 :=
  outVec c (V m c main_v3) (st0 m hO t) (st1 m hO t) (st2 m hO t) (st3 m hO t) (tbl m 0)
    ((st0 m hO t).view.rep (iblk m hO c 0 t)) ((st1 m hO t).view.rep (iblk m hO c 1 t))
    ((st2 m hO t).view.rep (iblk m hO c 2 t)) ((st3 m hO t).view.rep (iblk m hO c 3 t))

def dats (_ : Fin 1) (c : Dev nD) : Dat τ (Elt F) Unit ℕ (UU nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := Φ m c
  q _ := fullShare
  owed _ := 0

theorem fetchM (w : Fin (cfgM m hO).W) (hw : ((cfgM m hO).win w).isOut = false) (t : Fin (cfgM m hO).N) : ((cfgM m hO).win w).fetch t = true := by
  obtain rfl := fin_N0 t
  unfold Pipeline.Window.fetch
  rw [hw]; rfl

theorem before_w0 (c : Dev nD) (t : Fin (cfgM m hO).N) (d) : (dats m hO 0 c).before 0 t d = iblk m hO c 0 t := by
  unfold Dat.before; rw [if_pos (fetchM m hO 0 rfl t)]; unfold Dat.fetched Dat.blockOf iblk; dsimp only [dats]; rfl
theorem before_w1 (c : Dev nD) (t : Fin (cfgM m hO).N) (d) : (dats m hO 0 c).before 1 t d = iblk m hO c 1 t := by
  unfold Dat.before; rw [if_pos (fetchM m hO 1 rfl t)]; unfold Dat.fetched Dat.blockOf iblk; dsimp only [dats]; rfl
theorem before_w2 (c : Dev nD) (t : Fin (cfgM m hO).N) (d) : (dats m hO 0 c).before 2 t d = iblk m hO c 2 t := by
  unfold Dat.before; rw [if_pos (fetchM m hO 2 rfl t)]; unfold Dat.fetched Dat.blockOf iblk; dsimp only [dats]; rfl
theorem before_w3 (c : Dev nD) (t : Fin (cfgM m hO).N) (d) : (dats m hO 0 c).before 3 t d = iblk m hO c 3 t := by
  unfold Dat.before; rw [if_pos (fetchM m hO 3 rfl t)]; unfold Dat.fetched Dat.blockOf iblk; dsimp only [dats]; rfl
theorem after_w0 (c : Dev nD) (t : Fin (cfgM m hO).N) : (dats m hO 0 c).after 0 t = iblk m hO c 0 t := rfl
theorem after_w1 (c : Dev nD) (t : Fin (cfgM m hO).N) : (dats m hO 0 c).after 1 t = iblk m hO c 1 t := rfl
theorem after_w2 (c : Dev nD) (t : Fin (cfgM m hO).N) : (dats m hO 0 c).after 2 t = iblk m hO c 2 t := rfl
theorem after_w3 (c : Dev nD) (t : Fin (cfgM m hO).N) : (dats m hO 0 c).after 3 t = iblk m hO c 3 t := rfl
theorem after_w4 (c : Dev nD) (t : Fin (cfgM m hO).N) : (dats m hO 0 c).after 4 t = outAt m hO c t := rfl

/-- The program at a point is the kernel on the point's staging memrefs. -/
theorem defs_tc : (defs₀ (F := F)) .tc (cfgM m hO).body
    = fun (a : Fin grid0.N × ((w : Fin 5) → Fin (spec0 w).nbuf)) => bodyG (grid0.coords a.1) (spec0_0.stage (a.2 0)) (hstage0_0 ((a.2 0).cast nbuf0_0)) (spec0_1.stage (a.2 1)) (hstage0_1 ((a.2 1).cast nbuf0_1))
        (spec0_2.stage (a.2 2)) (hstage0_2 ((a.2 2).cast nbuf0_2)) (spec0_3.stage (a.2 3)) (hstage0_3 ((a.2 3).cast nbuf0_3))
        (spec0_4.stage (a.2 4)) (hstage0_4 ((a.2 4).cast nbuf0_4)) := rfl
theorem prog_eq (t : Fin (cfgM m hO).N) : (defs₀ (F := F)) .tc (cfgM m hO).body ((cfgM m hO).bodyArgs t ((cfgM m hO).slots t))
    = bodyG (grid0.coords t) (st0 m hO t) (hstage0_0 _) (st1 m hO t) (hstage0_1 _) (st2 m hO t) (hstage0_2 _) (st3 m hO t) (hstage0_3 _)
        (st4 m hO t) (hstage0_4 _) :=
  (congrFun (defs_tc m hO) _).trans rfl

set_option backward.isDefEq.respectTransparency.types false in
theorem body_obligation (c : Dev nD) : BodyObligation (dats m hO 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m hO 0 c).Φ t.castSucc = Φ m c from rfl, show (dats m hO 0 c).Φ t.succ = Φ m c from rfl]
  unfold Dat.owesAt Pipeline.owesWithin
  rw [show (dats m hO 0 c).owed t.castSucc = 0 from rfl, show (dats m hO 0 c).owed t.succ = 0 from rfl]
  unfold owns Φ
  iintro ⟨⟨HOWN, HR, HT⟩, ⟨%W, -, HW⟩, ⟨%d0, %g0, %hg0, H0⟩, ⟨%d1, %g1, %hg1, H1⟩, ⟨%d2, %g2, %hg2, H2⟩, ⟨%d3, %g3, %hg3, H3⟩, ⟨%d4, %gO, -, HO⟩⟩
  ihave H0' := (pointsTo_rep_entails (c : Thread nD τ) (st0 m hO t) g0 fullShare) $$ H0
  ihave H1' := (pointsTo_rep_entails (c : Thread nD τ) (st1 m hO t) g1 fullShare) $$ H1
  ihave H2' := (pointsTo_rep_entails (c : Thread nD τ) (st2 m hO t) g2 fullShare) $$ H2
  ihave H3' := (pointsTo_rep_entails (c : Thread nD τ) (st3 m hO t) g3 fullShare) $$ H3
  rw [hg0, hg1, hg2, hg3]
  sl_rw [prog_eq m hO t]
  iapply (bodyRun c (V m c main_v3) (grid0.coords t) (st0 m hO t) (hstage0_0 _) (st1 m hO t) (hstage0_1 _) (st2 m hO t) (hstage0_2 _)
    (st3 m hO t) (hstage0_3 _) (st4 m hO t) (hstage0_4 _) fullShare.right (tbl m 0)
    ((st0 m hO t).view.rep (iblk m hO c 0 t)) ((st1 m hO t).view.rep (iblk m hO c 1 t))
    ((st2 m hO t).view.rep (iblk m hO c 2 t)) ((st3 m hO t).view.rep (iblk m hO c 3 t)) gO W)
  isplitl [HOWN HT HW H0' H1' H2' H3' HO]
  · isplitl [HT]; · iexact HT
    isplitl [H0']; · iexact H0'
    isplitl [H1']; · iexact H1'
    isplitl [H2']; · iexact H2'
    isplitl [H3']; · iexact H3'
    isplitl [HO]; · iexact HO
    isplitl [HOWN]; · iexact HOWN
    iexact HW
  · iintro ⟨%fA, %W', HT, H0, H1, H2, H3, HO, HOWN, HW⟩
    isplitl [HOWN HR HT]
    · isplitl [HOWN]; · iexact HOWN
      isplitl [HR]; · iexact HR
      iexact HT
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; exact read_outOf c (V m c main_v3) (st0 m hO t) (st1 m hO t) (st2 m hO t) (st3 m hO t) (st4 m hO t) (tbl m 0) _ _ _ _ gO fA
    iexact HO

/-- The kernel's own, as the launch hands it over: its scratch buffers at anything, its semaphores at zero, the
    matrix at its contents, -/
theorem into_own (c : Dev nD) :
    iprop(Pipeline.ΦD osem spec0 {main_v3} (V m) c ∗ Pipeline.ΦT pre0 (tbl m) c) ⊢ (Φ m c : sProp 𝕄) := by
  rw [Pipeline.ΦD_eq, scopedRest0_eq, ownSems0_eq, bigSep_singleton, mat_eq]
  unfold Pipeline.ΦT Pipeline.prefHeld
  rw [show (Finset.univ : Finset (Fin 1)) = {(0 : Fin 1)} from by decide, bigSep_singleton]
  unfold Φ OWN tabP tailP accP hP
  simp only [View.set_whole]
  iintro ⟨⟨⟨HA, HH, HB, HTl⟩, HR, ⟨Hc0, Hc1, Hc2, Hc3, HcT⟩, Hm, HmT⟩, HT⟩
  ihave Hs := (buf_split c) $$ HB
  icases Hs with ⟨Hs0, Hs1, Hs2, Hs3⟩
  isplitl [HA HH HTl Hs0 Hs1 Hs2 Hs3 Hc0 Hc1 Hc2 Hc3 HcT Hm HmT]
  · isplitl [Hm]; · iexact Hm
    isplitl [HmT]; · iexact HmT
    isplitl [Hs0]; · iexact Hs0
    isplitl [Hs1]; · iexact Hs1
    isplitl [Hs2]; · iexact Hs2
    isplitl [Hs3]; · iexact Hs3
    isplitl [HTl]; · iexact HTl
    isplitl [HA]; · iexact HA
    isplitl [HH]; · iexact HH
    isplitl [Hc0]; · iexact Hc0
    isplitl [Hc1]; · iexact Hc1
    isplitl [Hc2]; · iexact Hc2
    isplitl [Hc3]; · iexact Hc3
    iexact HcT
  isplitl [HR]; · iexact HR
  iexact HT
/-- and as it takes it back. -/
theorem from_own (c : Dev nD) : (Φ m c : sProp 𝕄) ⊢ Pipeline.ΦD osem spec0 {main_v3} (V m) c := by
  rw [Pipeline.ΦD_eq, scopedRest0_eq, ownSems0_eq, bigSep_singleton, mat_eq]
  unfold Φ OWN tabP tailP accP hP
  simp only [View.set_whole]
  iintro ⟨⟨Hm, HmT, Hs0, Hs1, Hs2, Hs3, HTl, HA, HH, Hc0, Hc1, Hc2, Hc3, HcT⟩, HR, -⟩
  isplitl [HTl HA HH Hs0 Hs1 Hs2 Hs3]
  · isplitl [HA]; · iexact HA
    isplitl [HH]; · iexact HH
    isplitl [Hs0 Hs1 Hs2 Hs3]
    · iapply (buf_join c)
      isplitl [Hs0]; · iexact Hs0
      isplitl [Hs1]; · iexact Hs1
      isplitl [Hs2]; · iexact Hs2
      iexact Hs3
    iexact HTl
  isplitl [HR]; · iexact HR
  isplitl [Hc0 Hc1 Hc2 Hc3 HcT]
  · isplitl [Hc0]; · iexact Hc0
    isplitl [Hc1]; · iexact Hc1
    isplitl [Hc2]; · iexact Hc2
    isplitl [Hc3]; · iexact Hc3
    iexact HcT
  isplitl [Hm]; · iexact Hm
  iexact HmT

/-- No host operation draws a fresh reference. -/
theorem host_fresh : (hostOps0 : List (HloOp τ sig (Elt F))).Forall fun op => op.fresh = ∅ := ⟨rfl, rfl, rfl, rfl, rfl⟩

set_option backward.isDefEq.respectTransparency.types false in
/-- From any memory whose index is in range the program runs: each window's array ends at the contents the pipeline
    gives it, every other buffer at what the pallas_call found there, every semaphore at zero. -/
theorem run_raw (g : Dev nD → PrngReg) :
    θ_run defs (onTc (τ := τ) (main (F := F))) ⟨m, fun _ => 0, g⟩
      (fun r => Pipeline.FramePost (Pipeline.pin (pcfgs (F := F)) (adms m hO)) (dats m hO) 0 (V m) r ∧ r.2.sem = fun _ => 0) :=
  Pipeline.θ_run_frameP_dma (pcfgs (F := F)) (adms m hO) (dats m hO) 0 launch0 osem (defs₀ (F := F)) 𝒱₀ ownSemFacts {main_v3}
    (show ({main_v3} : Finset (Ref sig .tc)) ⊆ Pipeline.restRefsP sig pre0 spec0 from by decide) m g
    (main (F := F)) (fun c => (body_obligation m hO c).loose) (fun c => (dats m hO 0 c).share_full fun _ => rfl) (fun _ _ => rfl) (V m)
    (Pipeline.hmainP_prefix (pcfgs (F := F)) 0 (defs₀ (F := F)) 𝒱₀ m main hostOps0 hostOps0_sub host_fresh (fun c => main_chain c))
    (fun _ _ => rfl) (fun c j => by obtain rfl : c = 0 := Subsingleton.elim _ _; obtain rfl : j = 0 := Subsingleton.elim _ _; rfl)
    (fun c => into_own m c) (fun c => from_own m c)
    (fun r => Pipeline.FramePost (Pipeline.pin (pcfgs (F := F)) (adms m hO)) (dats m hO) 0 (V m) r ∧ r.2.sem = fun _ => 0) (fun _ h => h)

end Launch

end Cert.Proof.KernelIdealRun

end
-- ==== Proof.KernelIdeal.Frame.lean ====
/-
  The run under the precondition: the result's array holds what the body leaves in its buffer, and every argument
  keeps its contents.
-/
module

public import proofs.«01_k».proof.Proof.KernelIdeal.Launch
public import proofs.«01_k».proof.Proof.Word

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UU nD τ) ℕ

section Frame

variable (m : (ℓ : Loc nD τ sig) → Buf (Elt F) ℓ)

/-- The host operations leave every argument alone: -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl

/-- The index is a row of the embedding table. -/
def InRange : Prop := ∀ j : S1.Idx, (m (((0 : Dev nD) : Thread nD τ).loc main_arg0) j : BitVec 32).toNat < 100000
/-- The index as a natural number. -/
def idxN : Nat := (m (((0 : Dev nD) : Thread nD τ).loc main_arg0) (ValueIdx.ix1 0) : BitVec 32).toNat

theorem word_eq : (tbl m).at 0 (Rect.unit (s := S1) ![0] S1.size inb_S1_S1_0) numel1_S1 = BitVec.ofNat 32 (idxN m) := by
  unfold idxN
  rw [BitVec.ofNat_toNat, BitVec.setWidth_eq]
  haveI : Subsingleton S1.Idx := ⟨fun x y => funext fun a => Fin.ext (by
    fin_cases a
    have h1 : (x 0).val < 1 := (x 0).isLt
    have h2 : (y 0).val < 1 := (y 0).isLt
    show (x 0).val = (y 0).val; omega)⟩
  exact congrArg (m (((0 : Dev nD) : Thread nD τ).loc main_arg0)) (Subsingleton.elim (α := S1.Idx) _ _)

/-- The embedding table's block is the one that holds the index's column. -/
theorem transform_eq (hR : InRange m) (i : grid0.Coords) : cc0_transform_0 inb_S1_S1_0 numel1_S1 (tbl m) i = ![0, idxN m / 128] := by
  unfold cc0_transform_0
  dsimp only
  rw [word_eq, Word.floor_div (idxN m) (hR _)]
  have := hR (ValueIdx.ix1 0)
  rw [show (BitVec.ofNat 32 (idxN m / 128)).toNat = idxN m / 128 from by
    rw [BitVec.toNat_ofNat]; exact Nat.mod_eq_of_lt (by unfold idxN; omega)]
  rfl

theorem ok_of_range (hR : InRange m) : Ok m := by
  intro i
  rw [transform_eq m hR i]
  have := hR (ValueIdx.ix1 0)
  refine ⟨fun a => ?_, .inl rfl⟩
  unfold idxN
  fin_cases a
  · show (0 + 1) * 64 ≤ 64; omega
  · show (_ / 128 + 1) * 128 ≤ 100096; omega

variable (hO : Ok m)

/-- The result's array at the end of the run. -/
def outArr (c : Dev nD) : Vec F S3x100000 .f32 := outAt m hO c t0_0

theorem flush4 (t : Fin (cfgM m hO).N) : ((cfgM m hO).win 4).flush t = true := by
  obtain rfl := fin_N0 t
  unfold Pipeline.Window.flush
  rfl

/-- The result's one block is its whole array. -/
theorem arr_out (c : Dev nD) : (dats m hO 0 c).arrAt 4 (cfgM m hO).N = outArr m hO c := by
  refine (dats m hO 0 c).arrAt_eq_of_cover 4 (outArr m hO c) (fun t _ => ?_) (fun y => ⟨t0_0, flush4 m hO _, ?_⟩)
  · obtain rfl := fin_N0 t
    funext y
    refine congrArg (outAt m hO c t0_0) (show y = (((cfgM m hO).win 4).blk t0_0).view.emb y from ?_)
    funext a
    refine Fin.ext ?_
    exact (Pipeline.Window.rect_emb_val_of_index_zero ((cfgM m hO).win 4) t0_0 a (by fin_cases a <;> rfl) y).symm
  · have e : y = (((cfgM m hO).win 4).blk t0_0).view.emb y := by
      funext a
      refine Fin.ext ?_
      exact (Pipeline.Window.rect_emb_val_of_index_zero ((cfgM m hO).win 4) t0_0 a (by fin_cases a <;> rfl) y).symm
    exact Finset.mem_map.2 ⟨y, Finset.mem_univ _, e.symm⟩

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)

/-- From any memory whose index is in range the program runs: the result's array ends at `outArr`, every argument
    at what it held, every semaphore at zero. -/
theorem run_named (g : Dev nD → PrngReg) :
    θ_run defs (onTc (τ := τ) (main (F := F))) ⟨m, fun _ => 0, g⟩ (fun r => (∀ c : Dev nD,
      r.2.mem ((c : Thread nD τ).loc main_v4) = outArr m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨fun c =>
    ⟨((h.1 c).1 4).trans (arr_out m hO c),
     ((h.1 c).2 main_arg0 rest0).trans (V_arg0 m c),
     ((h.1 c).2 main_arg1 rest1).trans (V_arg1 m c),
     ((h.1 c).1 1).trans (((dats m hO 0 c).arrAt_in 1 rfl _).trans (V_arg2 m c)),
     ((h.1 c).2 main_arg3 rest3).trans (V_arg3 m c),
     ((h.1 c).2 main_arg4 rest4).trans (V_arg4 m c),
     ((h.1 c).1 3).trans (((dats m hO 0 c).arrAt_in 3 rfl _).trans (V_arg5 m c))⟩, h.2⟩) (run_raw m hO g)

end Frame

end Cert.Proof.KernelIdealRun

end
-- ==== Proof.Value.Payloads.lean ====
/-
  What each vector expression of the kernel computes at extended reals, entry by entry.
-/
module

public import proofs.«01_k».proof.Proof.Gen.KernelIdeal.Skeleton
public import proofs.«01_k».proof.Proof.Word
public import Idealize.ShloMosaic.Lib.Pointwise

@[expose] public section

set_option maxRecDepth 16384

noncomputable section

namespace Cert.Proof.Payloads

open Cert.KernelIdeal Cert.KernelIdeal.Gen
open Idealize.ShloMosaic
open scoped BigOperators

/-- The logits of the last 5088 columns. -/
theorem pay1_apply (w : Vec Ideal S5088x128 .f32) (h : Vec Ideal S128x1 .f32) (b : Vec Ideal S5088 .f32) (x : S1x5088.Idx) :
    k0_pay1 (F := Ideal) w h b x = (∑ k : Fin 128, w (ix2 (x 1) k) * h (ix2 k 0)) + b (ix1 (x 1)) := by
  idx_vars x
  pointwise [k0_pay1]
theorem pay2_eq (w : Vec Ideal S5088x128 .f32) (h : Vec Ideal S128x1 .f32) (b : Vec Ideal S5088 .f32) :
    k0_pay2 (F := Ideal) w h b = k0_pay1 w h b := by
  funext x
  idx_vars x
  pointwise [k0_pay2]
/-- The logits of one block of 16384 columns. -/
theorem pay9_apply (w : Vec Ideal S1x16384x128 .f32) (h : Vec Ideal S128x1 .f32) (b : Vec Ideal S16384 .f32) (x : S1x16384.Idx) :
    k0_pay9 (F := Ideal) w h b x = (∑ k : Fin 128, w (ix3 0 (x 1) k) * h (ix2 k 0)) + b (ix1 (x 1)) := by
  idx_vars x
  pointwise [k0_pay9]
theorem pay10_eq (w : Vec Ideal S1x16384x128 .f32) (h : Vec Ideal S128x1 .f32) (b : Vec Ideal S16384 .f32) :
    k0_pay10 (F := Ideal) w h b = k0_pay9 w h b := by
  funext x
  idx_vars x
  pointwise [k0_pay10]
theorem pay11_apply (acc : Vec Ideal S1x16384 .f32) (w : Vec Ideal S1x16384x128 .f32) (h : Vec Ideal S128x1 .f32) (b : Vec Ideal S16384 .f32) (x : S1x16384.Idx) :
    k0_pay11 (F := Ideal) acc w h b x = acc x + Ideal.exp (k0_pay9 (F := Ideal) w h b x) := rfl
theorem pay8_apply (x : S1x16384.Idx) : k0_pay8 (F := Ideal) x = 0 := by
  pointwise [k0_pay8]
theorem log_def (x : EReal) : (Scalar.log (F := Ideal) (φ := .f32) x : EReal) = Ideal.log x := rfl
/-- The logarithm of the sum of all exponentials. -/
theorem pay3_eq (acc : Vec Ideal S1x16384 .f32) (w : Vec Ideal S5088x128 .f32) (h : Vec Ideal S128x1 .f32) (b : Vec Ideal S5088 .f32) :
    k0_pay3 (F := Ideal) acc w h b = Ideal.log ((∑ l : Fin 16384, acc (ix2 0 l)) + ∑ l : Fin 5088, Ideal.exp (k0_pay1 (F := Ideal) w h b (ix2 0 l))) := by
  pointwise [k0_pay3]
  rw [Fin.sum_univ_one, Fin.sum_univ_one]
  exact log_def _
theorem pay4_apply (acc : Vec Ideal S1x16384 .f32) (w : Vec Ideal S5088x128 .f32) (h : Vec Ideal S128x1 .f32) (b : Vec Ideal S5088 .f32)
    (r : Vec Ideal S1x100000 .f32) (x : S1x100000.Idx) :
    k0_pay4 (F := Ideal) acc w h b r x = r x - k0_pay3 (F := Ideal) acc w h b := rfl

/-- A sum over lanes in which only lane `n` is kept is the entry of lane `n`. -/
theorem sum_lane (f : Fin 128 → EReal) (n : Nat) (hn : n < 128) :
    (∑ x : Fin 128, Scalar.select (IntOp.cmpi .eq (BitVec.ofNat 32 x.val) (BitVec.ofNat 32 n)) (f x) 0) = f ⟨n, hn⟩ := by
  rw [Finset.sum_eq_single ⟨n, hn⟩]
  · rw [show IntOp.cmpi .eq (BitVec.ofNat 32 n) (BitVec.ofNat 32 n) = 1#1 from by simp [IntOp.cmpi]]
    rfl
  · intro x _ hx
    have hne : BitVec.ofNat 32 x.val ≠ BitVec.ofNat 32 n := fun h => hx (Fin.ext (by
      have h' := congrArg BitVec.toNat h
      rw [BitVec.toNat_ofNat, BitVec.toNat_ofNat, Nat.mod_eq_of_lt (by omega), Nat.mod_eq_of_lt (by omega)] at h'
      exact h'))
    rw [show IntOp.cmpi .eq (BitVec.ofNat 32 x.val) (BitVec.ofNat 32 n) = 0#1 from by
      show BitVec.ofBool (BitVec.ofNat 32 x.val == BitVec.ofNat 32 n) = 0#1
      rw [beq_eq_false_iff_ne.2 hne]; rfl]
    rfl
  · exact fun h => absurd (Finset.mem_univ _) h

set_option backward.isDefEq.respectTransparency false in
/-- The hidden layer. -/
theorem pay7_apply (n : Nat) (hn : n < 100000) (e : Vec Ideal S64x128 .f32) (w : Vec Ideal S64x128 .f32) (b : Vec Ideal S1x128 .f32) (x : S128x1.Idx) :
    k0_pay7 (F := Ideal) (BitVec.ofNat 32 n) e w b x
      = max ((∑ k : Fin 64, e (ix2 k ⟨n % 128, Nat.mod_lt _ (by decide)⟩) * w (ix2 k (x 0))) + b (ix2 0 (x 0))) 0 := by
  idx_vars x
  pointwise [k0_pay7]
  have hm := Word.floor_mod n hn
  rw [hm]
  simp only [sum_lane _ _ (Nat.mod_lt n (by decide : 0 < 128))]

end Cert.Proof.Payloads

end
-- ==== Proof.Value.Body.lean ====
/-
  What the kernel's body leaves in the output's buffer, at extended reals, in terms of what its operands hold.
-/
module

public import proofs.«01_k».proof.Proof.KernelIdeal.Reads
public import proofs.«01_k».proof.Proof.Value.Payloads

@[expose] public section

set_option maxRecDepth 16384

noncomputable section

namespace Cert.Proof.KernelIdealRun

open Cert.KernelIdeal Cert.KernelIdeal.Gen
open Idealize.ShloMosaic
open Idealize.ShloMosaic.TcCoe
open scoped BigOperators

/-- Logit `n` of a transposed weight matrix `W`, a hidden column `h` and a bias `b`. -/
def lin (W : Vec Ideal S300000x128 .f32) (h : Vec Ideal S128x1 .f32) (b : Vec Ideal S300000 .f32) (n : Nat) : EReal :=
  if hn : n < 300000 then (∑ k : Fin 128, W (ix2 ⟨n, hn⟩ k) * h (ix2 k 0)) + b (ix1 ⟨n, hn⟩) else 0

section Body

variable (c : Dev nD) (XA : Buf (Elt Ideal) (wM.view.loc (c : Thread nD τ)))
  (arg2 : Memref sig .tc .vmem S64x128 .f32) (arg3 : Memref sig .tc .vmem S64x128 .f32)
  (arg4 : Memref sig .tc .vmem S1x128 .f32) (arg6 : Memref sig .tc .vmem S300000 .f32)
  (gT : Buf (Elt Ideal) (tabM.view.loc (c : Thread nD τ)))
    (g2 : Buf (Elt Ideal) (arg2.view.loc (c : Thread nD τ))) (g3 : Buf (Elt Ideal) (arg3.view.loc (c : Thread nD τ)))
    (g4 : Buf (Elt Ideal) (arg4.view.loc (c : Thread nD τ))) (g6 : Buf (Elt Ideal) (arg6.view.loc (c : Thread nD τ)))

/-- Block `b` of the matrix, entry by entry. -/
theorem chunk_apply (k : Fin k0_t1_loop.trips) (r : Fin 16384) (j : Fin 128) (hn : 16384 * k.val + r.val < 300000) :
    chunk c XA (Ring.bk 18 k.val) (ix3 0 r j) = (XA : Vec Ideal S300000x128 .f32) (ix2 ⟨16384 * k.val + r.val, hn⟩ j) := by
  unfold chunk
  pointwise []
  refine congrArg (XA : Vec Ideal S300000x128 .f32) (funext fun a => Fin.ext ?_)
  have e : (Ring.bk 18 k.val).val = k.val := Ring.bk_val (trip_lt k)
  fin_cases a
  · show 16384 * (Ring.bk 18 k.val).val + 1 * r.val = 16384 * k.val + r.val; omega
  · show 0 + 1 * j.val = j.val; omega

/-- The last rows, entry by entry. -/
theorem tailV_apply (r : Fin 5088) (j : Fin 128) (hn : 294912 + r.val < 300000) :
    tailV c XA (ix2 r j) = (XA : Vec Ideal S300000x128 .f32) (ix2 ⟨294912 + r.val, hn⟩ j) := by
  refine congrArg (XA : Vec Ideal S300000x128 .f32) (funext fun a => Fin.ext ?_)
  fin_cases a
  · show 294912 + 1 * r.val = 294912 + r.val; omega
  · show 0 + 1 * j.val = j.val; omega

variable (h : Vec Ideal S128x1 .f32) (b : Vec Ideal S300000 .f32)
  (hh : hVec c arg2 arg3 arg4 gT g2 g3 g4 = h) (hb : arg6.view.read (Elt Ideal) g6 = b)
include hb

/-- The bias of block `k`, entry by entry. -/
theorem b2Of_apply (k : Fin k0_t1_loop.trips) (r : Fin 16384) (hn : 16384 * k.val + r.val < 300000) :
    b2Of c arg6 g6 k (ix1 r) = b (ix1 ⟨16384 * k.val + r.val, hn⟩) := by
  subst hb
  refine congrArg (arg6.view.read (Elt Ideal) g6) (funext fun a => Fin.ext ?_)
  have e := congrFun (k0_off5_eq k) 0
  fin_cases a
  show k0_off5 k 0 + 1 * r.val = 16384 * k.val + r.val
  rw [e]; show 16384 * k.val + 1 * r.val = _; omega
/-- The bias of the last columns, entry by entry. -/
theorem b2T_apply (r : Fin 5088) (hn : 294912 + r.val < 300000) :
    b2T c arg6 g6 (ix1 r) = b (ix1 ⟨294912 + r.val, hn⟩) := by
  subst hb
  refine congrArg (arg6.view.read (Elt Ideal) g6) (funext fun a => Fin.ext ?_)
  fin_cases a
  show 294912 + 1 * r.val = 294912 + r.val; omega

include hh

theorem hOf_val : hOf c (g9Of c arg2 arg3 arg4 gT g2 g3 g4) = h := (hOf_eq c arg2 arg3 arg4 gT g2 g3 g4).trans hh

/-- The logits of block `k`. -/
theorem block_apply (k : Fin k0_t1_loop.trips) (r : Fin 16384) :
    k0_pay9 (F := Ideal) (chunk c XA (Ring.bk 18 k.val)) (hOf c (g9Of c arg2 arg3 arg4 gT g2 g3 g4)) (b2Of c arg6 g6 k) (ix2 0 r)
      = lin XA h b (16384 * k.val + r.val) := by
  have hk := trip_lt k
  have hr := r.isLt
  have hn : 16384 * k.val + r.val < 300000 := by omega
  rw [Payloads.pay9_apply, hOf_val c arg2 arg3 arg4 arg6 gT g2 g3 g4 g6 h b hh hb]
  show (∑ j : Fin 128, chunk c XA (Ring.bk 18 k.val) (ix3 0 r j) * h (ix2 j 0)) + b2Of c arg6 g6 k (ix1 r) = _
  rw [b2Of_apply c arg6 g6 b hb k r hn, lin, dif_pos hn]
  congr 1
  exact Finset.sum_congr rfl fun j _ => by rw [chunk_apply c XA k r j hn]
/-- The logits of the last columns. -/
theorem tail_apply (r : Fin 5088) :
    k0_pay1 (F := Ideal) (tailRd c XA) (hOf c (g9Of c arg2 arg3 arg4 gT g2 g3 g4)) (b2T c arg6 g6) (ix2 0 r)
      = lin XA h b (294912 + r.val) := by
  have hr := r.isLt
  have hn : 294912 + r.val < 300000 := by omega
  rw [Payloads.pay1_apply, hOf_val c arg2 arg3 arg4 arg6 gT g2 g3 g4 g6 h b hh hb, tailRd_eq]
  show (∑ j : Fin 128, tailV c XA (ix2 r j) * h (ix2 j 0)) + b2T c arg6 g6 (ix1 r) = _
  rw [b2T_apply c arg6 g6 b hb r hn, lin, dif_pos hn]
  congr 1
  exact Finset.sum_congr rfl fun j _ => by rw [tailV_apply c XA r j hn]

/-- Every logit the kernel stores. -/
theorem logit_eq (n : Nat) (hn : n < 300000) : logit c XA arg2 arg3 arg4 arg6 gT g2 g3 g4 g6 n = lin XA h b n := by
  unfold logit
  rcases Nat.lt_or_ge n 294912 with hl | hl
  · rw [dif_pos hl]
    have hd : n / 16384 < k0_t1_loop.trips := by rw [trips_eq]; omega
    show k0_pay10 (F := Ideal) _ _ _ _ = _
    rw [Payloads.pay10_eq]
    refine (block_apply c XA arg2 arg3 arg4 arg6 gT g2 g3 g4 g6 h b hh hb ⟨n / 16384, hd⟩ ⟨n % 16384, Nat.mod_lt _ (by decide)⟩).trans ?_
    exact congrArg (lin XA h b) (Nat.div_add_mod n 16384)
  · rw [dif_neg (by omega), dif_pos hn, Payloads.pay2_eq]
    refine (tail_apply c XA arg2 arg3 arg4 arg6 gT g2 g3 g4 g6 h b hh hb ⟨n - 294912, by omega⟩).trans ?_
    exact congrArg (lin XA h b) (by show 294912 + (n - 294912) = n; omega)

/-- The running sums before trip `k`: lane `r` has summed the columns `16384 i + r` of the earlier blocks. -/
theorem sumAt_apply (r : Fin 16384) : ∀ k : Nat, k ≤ k0_t1_loop.trips →
    sumAt c XA arg6 (g9Of c arg2 arg3 arg4 gT g2 g3 g4) g6 k (ix2 0 r)
      = ∑ i ∈ Finset.range k, Ideal.exp (lin XA h b (16384 * i + r.val))
  | 0, _ => by rw [sumAt_zero, Payloads.pay8_apply, Finset.range_zero, Finset.sum_empty]
  | k + 1, hk => by
    have e := sumAt_succ c XA arg6 (g9Of c arg2 arg3 arg4 gT g2 g3 g4) g6 ⟨k, hk⟩
    rw [show k + 1 = (⟨k, hk⟩ : Fin k0_t1_loop.trips).val + 1 from rfl, e]
    show k0_pay11 (F := Ideal) _ _ _ _ _ = _
    rw [Payloads.pay11_apply, block_apply c XA arg2 arg3 arg4 arg6 gT g2 g3 g4 g6 h b hh hb ⟨k, hk⟩ r, Finset.sum_range_succ]
    show sumAt c XA arg6 (g9Of c arg2 arg3 arg4 gT g2 g3 g4) g6 k (ix2 0 r) + _ = _
    rw [sumAt_apply r k (by omega)]

omit hh hb in
/-- Sums over blocks of lanes are sums over all of them. -/
theorem sum_blocks (f : Nat → EReal) (L : Nat) : ∀ K : Nat,
    ∑ n ∈ Finset.range (L * K), f n = ∑ i ∈ Finset.range K, ∑ r ∈ Finset.range L, f (L * i + r)
  | 0 => by simp
  | K + 1 => by rw [Nat.mul_succ, Finset.sum_range_add, sum_blocks f L K, Finset.sum_range_succ]

omit hh hb in
/-- The kernel's grouping of the sum over all columns. -/
theorem sum_all (f : Nat → EReal) : ∑ n ∈ Finset.range 300000, f n
    = (∑ r : Fin 16384, ∑ i ∈ Finset.range 18, f (16384 * i + r.val)) + ∑ r : Fin 5088, f (294912 + r.val) := by
  have e1 : ∑ n ∈ Finset.range (16384 * 18 + 5088), f n = ∑ n ∈ Finset.range (16384 * 18), f n + ∑ r ∈ Finset.range 5088, f (16384 * 18 + r) :=
    Finset.sum_range_add f _ _
  have e2 := sum_blocks f 16384 18
  rw [Finset.sum_comm, Finset.sum_range (fun r => ∑ i ∈ Finset.range 18, f (16384 * i + r))] at e2
  have e3 := Finset.sum_range (n := 5088) (fun r => f (16384 * 18 + r))
  rw [e2, e3] at e1
  exact e1

/-- The normaliser: the logarithm of the sum of all 300000 exponentials. -/
theorem logz_eq : k0_pay3 (F := Ideal) (sumFin c XA arg2 arg3 arg4 arg6 gT g2 g3 g4 g6) (tailRd c XA) (hOf c (g9Of c arg2 arg3 arg4 gT g2 g3 g4)) (b2T c arg6 g6)
    = Ideal.log (∑ n ∈ Finset.range 300000, Ideal.exp (lin XA h b n)) := by
  have hs : ∀ r : Fin 16384, sumFin c XA arg2 arg3 arg4 arg6 gT g2 g3 g4 g6 (ix2 0 r)
      = ∑ i ∈ Finset.range 18, Ideal.exp (lin XA h b (16384 * i + r.val)) := fun r => by
    refine (sumAt_apply c XA arg2 arg3 arg4 arg6 gT g2 g3 g4 g6 h b hh hb r k0_t1_loop.trips (le_refl _)).trans ?_
    rw [trips_eq]
  rw [Payloads.pay3_eq, sum_all (fun n => Ideal.exp (lin XA h b n)),
    Finset.sum_congr rfl fun r _ => hs r,
    Finset.sum_congr rfl fun r _ => congrArg Ideal.exp (tail_apply c XA arg2 arg3 arg4 arg6 gT g2 g3 g4 g6 h b hh hb r)]

/-- What the body leaves in the output's buffer: each logit less the normaliser. -/
theorem outVec_apply (r : Fin 3) (q : Fin 100000) :
    outVec c XA arg2 arg3 arg4 arg6 gT g2 g3 g4 g6 (ix2 r q)
      = lin XA h b (100000 * r.val + q.val) - Ideal.log (∑ n ∈ Finset.range 300000, Ideal.exp (lin XA h b n)) := by
  have hr := r.isLt
  have hq := q.isLt
  unfold outVec
  rw [Payloads.pay4_apply, logz_eq c XA arg2 arg3 arg4 arg6 gT g2 g3 g4 g6 h b hh hb]
  congr 1
  exact logit_eq c XA arg2 arg3 arg4 arg6 gT g2 g3 g4 g6 h b hh hb (100000 * r.val + q.val) (by omega)

end Body

end Cert.Proof.KernelIdealRun

end
-- ==== Proof.Value.Spec.lean ====
/-
  The function that kernel and reference both compute, on extended reals: one row of the embedding table through two
  layers, and the logarithm of its softmax.
-/
module

public import Idealize.ShloMosaic.PureOps.Ideal
public import Idealize.ShloMosaic.Lib.Pointwise

@[expose] public section

noncomputable section

namespace Cert.Proof.Spec

open Idealize.ShloMosaic
open scoped BigOperators

/-- A matrix of extended reals, -/
abbrev Mat (a b : Nat) : Type := Vec Ideal (⟨2, ![a, b]⟩ : Shape) .f32
/-- and a vector. -/
abbrev Row (a : Nat) : Type := Vec Ideal (⟨1, ![a]⟩ : Shape) .f32

/-- Hidden unit `j` for row `i` of the embedding table. -/
def hid (E : Mat 100000 64) (W1 : Mat 64 128) (b1 : Row 128) (i : Fin 100000) (j : Fin 128) : EReal :=
  max ((∑ k : Fin 64, E (ix2 i k) * W1 (ix2 k j)) + b1 (ix1 j)) 0

/-- Logit `n`. -/
def lg (E : Mat 100000 64) (W1 : Mat 64 128) (b1 : Row 128) (W2 : Mat 128 300000) (b2 : Row 300000) (i : Fin 100000) (n : Fin 300000) : EReal :=
  (∑ j : Fin 128, hid E W1 b1 i j * W2 (ix2 j n)) + b2 (ix1 n)

/-- Entry `n` of the logarithm of the softmax of the logits. -/
def out (E : Mat 100000 64) (W1 : Mat 64 128) (b1 : Row 128) (W2 : Mat 128 300000) (b2 : Row 300000) (i : Fin 100000) (n : Fin 300000) : EReal :=
  lg E W1 b1 W2 b2 i n - Ideal.log (∑ k : Fin 300000, Ideal.exp (lg E W1 b1 W2 b2 i k))

end Cert.Proof.Spec

end
-- ==== Proof.Value.Kernel.lean ====
/-
  What the kernel's result holds at the end of its run, at extended reals, in terms of the program's arguments.
-/
module

public import proofs.«01_k».proof.Proof.KernelIdeal.Frame
public import proofs.«01_k».proof.Proof.Value.Body
public import proofs.«01_k».proof.Proof.Value.Spec

@[expose] public section

set_option maxRecDepth 16384

noncomputable section

namespace Cert.Proof.KernelIdealRun

open Cert.KernelIdeal Cert.KernelIdeal.Gen
open Idealize.ShloMosaic
open Idealize.ShloMosaic.TcCoe
open scoped BigOperators

section Kernel

variable (m : (ℓ : Loc nD τ sig) → Buf (Elt Ideal) ℓ) (c : Dev nD)

/-- The program's arguments as arrays. -/
abbrev aE : Vec Ideal S100000x64 .f32 := m ((c : Thread nD τ).loc main_arg1)
abbrev aW1 : Vec Ideal S64x128 .f32 := m ((c : Thread nD τ).loc main_arg2)
abbrev aB1 : Vec Ideal S128 .f32 := m ((c : Thread nD τ).loc main_arg3)
abbrev aW2 : Vec Ideal S128x300000 .f32 := m ((c : Thread nD τ).loc main_arg4)
abbrev aB2 : Vec Ideal S300000 .f32 := m ((c : Thread nD τ).loc main_arg5)

/-- What the host operations make of them: the padded transpose of the embedding table, -/
theorem V_v1 : (V m c main_v1 : Vec Ideal S64x100096 .f32)
    = pad S64x100096 ![0, 0] ![0, 96] ![0, 0] (transpose S64x100000 [1, 0] (aE m c) transposes_S100000x64_S64x100000_1_0)
        (constant (F := Ideal) S_ .f32 0x00000000#32) pads_S64x100000_S64x100096_000_0960 h_S_ := rfl
/-- the first bias as a row, -/
theorem V_v2 : (V m c main_v2 : Vec Ideal S1x128 .f32) = shapeCast S1x128 (aB1 m c) shapeCasts_S128_S1x128 := rfl
/-- the transpose of the second weight matrix. -/
theorem V_v3 : (V m c main_v3 : Vec Ideal S300000x128 .f32)
    = transpose S300000x128 [1, 0] (aW2 m c) transposes_S128x300000_S300000x128_1_0 := rfl

theorem V_v1_apply (k : Fin 64) (i : Fin 100000) :
    (V m c main_v1 : Vec Ideal S64x100096 .f32) (ix2 k ⟨i.val, by have := i.isLt; omega⟩) = aE m c (ix2 i k) := by
  rw [V_v1]
  have := i.isLt
  pointwise []
theorem V_v2_apply (j : Fin 128) : (V m c main_v2 : Vec Ideal S1x128 .f32) (ix2 0 j) = aB1 m c (ix1 j) := by
  rw [V_v2]
  pointwise []
theorem V_v3_apply (j : Fin 128) (n : Fin 300000) : (V m c main_v3 : Vec Ideal S300000x128 .f32) (ix2 n j) = aW2 m c (ix2 j n) := by
  rw [V_v3]
  pointwise []

variable (hO : Ok m)

theorem read0 (hR : InRange m) (k : Fin 64) (l : Fin 128) (hn : idxN m / 128 * 128 + l.val < 100096) :
    iblk m hO c 0 t0_0 (ix2 k l) = (V m c main_v1 : Vec Ideal S64x100096 .f32) (ix2 k ⟨idxN m / 128 * 128 + l.val, hn⟩) := by
  refine congrArg (V m c main_v1 : Vec Ideal S64x100096 .f32) (funext fun a => Fin.ext ?_)
  have e : ((cfgM m hO).win 0).index t0_0 = ![0, idxN m / 128] := transform_eq m hR (grid0.coords t0_0)
  refine (Pipeline.Window.rect_emb_val ((cfgM m hO).win 0) t0_0 (ix2 k l) a rfl).trans ?_
  rw [e]
  fin_cases a
  · show 0 * 64 + k.val = k.val; omega
  · rfl
theorem read1 (x : S64x128.Idx) : iblk m hO c 1 t0_0 x = aW1 m c x := by
  refine congrArg (aW1 m c) (funext fun a => Fin.ext ?_)
  exact Pipeline.Window.rect_emb_val_of_index_zero ((cfgM m hO).win 1) t0_0 a (by fin_cases a <;> rfl) x
theorem read2 (x : S1x128.Idx) : iblk m hO c 2 t0_0 x = (V m c main_v2 : Vec Ideal S1x128 .f32) x := by
  refine congrArg (V m c main_v2 : Vec Ideal S1x128 .f32) (funext fun a => Fin.ext ?_)
  exact Pipeline.Window.rect_emb_val_of_index_zero ((cfgM m hO).win 2) t0_0 a (by fin_cases a <;> rfl) x
theorem read3 (x : S300000.Idx) : iblk m hO c 3 t0_0 x = aB2 m c x := by
  refine congrArg (aB2 m c) (funext fun a => Fin.ext ?_)
  exact Pipeline.Window.rect_emb_val_of_index_zero ((cfgM m hO).win 3) t0_0 a (by fin_cases a <;> rfl) x

/-- The index that the body reads out of its table. -/
theorem word_of : wordOf c (tbl m 0) = BitVec.ofNat 32 (idxN m) := word_eq m

variable (hR : InRange m)

/-- The index's row of the embedding table. -/
def rowIx : Fin 100000 := ⟨idxN m, hR (ValueIdx.ix1 0)⟩

/-- The hidden column from blocks that fill their buffers. -/
theorem hVec_rep (arg2 arg3 : Memref sig .tc .vmem S64x128 .f32) (arg4 : Memref sig .tc .vmem S1x128 .f32)
    (gT : Buf (Elt Ideal) (tabM.view.loc (c : Thread nD τ))) (x2 x3 : Vec Ideal S64x128 .f32) (x4 : Vec Ideal S1x128 .f32) :
    hVec c arg2 arg3 arg4 gT (arg2.view.rep x2) (arg3.view.rep x3) (arg4.view.rep x4) = k0_pay7 (F := Ideal) (wordOf c gT) x2 x3 x4 := by
  unfold hVec
  rw [View.readAt_rep_full, View.readAt_rep_full, View.readAt_rep_full]

/-- A sum of exponentials over numbers below `N` is one over `Fin N`. -/
theorem sum_exp (N : Nat) (f : Nat → EReal) (g : Fin N → EReal) (h : ∀ n : Fin N, f n.val = g n) :
    ∑ n ∈ Finset.range N, Ideal.exp (f n) = ∑ n : Fin N, Ideal.exp (g n) := by
  rw [Finset.sum_range]
  exact Finset.sum_congr rfl fun n _ => congrArg Ideal.exp (h n)

/-- The hidden column that the body computes. -/
theorem hidden (x : S128x1.Idx) :
    hVec c (st0 m hO t0_0) (st1 m hO t0_0) (st2 m hO t0_0) (tbl m 0)
      ((st0 m hO t0_0).view.rep (iblk m hO c 0 t0_0)) ((st1 m hO t0_0).view.rep (iblk m hO c 1 t0_0)) ((st2 m hO t0_0).view.rep (iblk m hO c 2 t0_0)) x
      = Spec.hid (aE m c) (aW1 m c) (aB1 m c) (rowIx m hR) (x 0) := by
  have hi : idxN m < 100000 := hR (ValueIdx.ix1 0)
  refine (congrFun (hVec_rep c (st0 m hO t0_0) (st1 m hO t0_0) (st2 m hO t0_0) (tbl m 0) (iblk m hO c 0 t0_0) (iblk m hO c 1 t0_0) (iblk m hO c 2 t0_0)) x).trans ?_
  rw [word_of]
  refine (Payloads.pay7_apply (idxN m) hi (iblk m hO c 0 t0_0) (iblk m hO c 1 t0_0) (iblk m hO c 2 t0_0) x).trans ?_
  unfold Spec.hid
  rw [read2, V_v2_apply m c (x 0)]
  refine congrArg (fun z => max (z + aB1 m c (ix1 (x 0))) 0) (Finset.sum_congr rfl fun k _ => ?_)
  have hd : idxN m / 128 * 128 + idxN m % 128 = idxN m := by omega
  rw [read1, read0 m c hO hR k ⟨idxN m % 128, Nat.mod_lt _ (by decide)⟩ (by show idxN m / 128 * 128 + idxN m % 128 < 100096; omega)]
  refine congrArg (· * aW1 m c (ix2 k (x 0))) ?_
  refine Eq.trans ?_ (V_v1_apply m c k (rowIx m hR))
  exact congrArg (fun z : Fin 100096 => (V m c main_v1 : Vec Ideal S64x100096 .f32) (ix2 k z)) (Fin.ext hd)

/-- Each logit that the body computes. -/
theorem lin_eq (n : Fin 300000) :
    lin (V m c main_v3) (fun x => Spec.hid (aE m c) (aW1 m c) (aB1 m c) (rowIx m hR) (x 0)) (aB2 m c) n.val
      = Spec.lg (aE m c) (aW1 m c) (aB1 m c) (aW2 m c) (aB2 m c) (rowIx m hR) n := by
  unfold lin Spec.lg
  rw [dif_pos n.isLt]
  refine congrArg (· + aB2 m c (ix1 n)) (Finset.sum_congr rfl fun j _ => ?_)
  rw [V_v3_apply m c j n]
  exact mul_comm _ _

/-- The kernel's result, entry by entry. -/
theorem outArr_apply (r : Fin 3) (q : Fin 100000) :
    outArr m hO c (ix2 r q) = Spec.out (aE m c) (aW1 m c) (aB1 m c) (aW2 m c) (aB2 m c) (rowIx m hR)
      ⟨100000 * r.val + q.val, by have := r.isLt; have := q.isLt; omega⟩ := by
  unfold outArr outAt
  refine (outVec_apply c (V m c main_v3) _ _ _ _ _ _ _ _ _ (fun x => Spec.hid (aE m c) (aW1 m c) (aB1 m c) (rowIx m hR) (x 0)) (aB2 m c)
    (funext fun x => hidden m c hO hR x) ((View.read_rep _ _).trans (funext fun x => read3 m c hO x)) r q).trans ?_
  unfold Spec.out
  exact congrArg₂ (fun a b : EReal => a - Ideal.log b) (lin_eq m c hR ⟨100000 * r.val + q.val, _⟩) (sum_exp 300000 _ _ (lin_eq m c hR))

end Kernel

end Cert.Proof.KernelIdealRun

end
-- ==== Proof.Value.Reference.lean ====
/-
  What each step of the reference computes, at extended reals, entry by entry.
-/
module

public import proofs.«01_k».proof.Proof.Gen.ReferenceIdeal.Run
public import Idealize.ShloMosaic.Lib.Pointwise
public import Idealize.ShloMosaic.Lib.ReduceAll
public import Idealize.ShloMosaic.Lib.Routing.Ops

@[expose] public section

set_option maxRecDepth 16384

noncomputable section

namespace Cert.Proof.RefValue

open Cert.ReferenceIdeal Cert.ReferenceIdeal.Gen
open Idealize.ShloMosaic
open Idealize.ShloMosaic.TcCoe
open scoped BigOperators

/-- The row index, with negative ones counted from the end, as a one by one array. -/
def rIdx (x : IVec S1 32) : IVec S1x1 32 :=
  broadcastInDim S1x1 ![0] bcast_S1_S1x1_0 (select (cmpi .slt x (broadcastInDim S1 ![] bcast_S_S1 (constantI S_ 32 0#32))) (addi x (broadcastInDim S1 ![] bcast_S_S1 (constantI S_ 32 100000#32))) x)
/-- Whether the index lies in the table. -/
def rOk (x : IVec S1 32) : IVec S1 1 :=
  Host.reduce IntOp.andi (andi (cmpi .sge (rIdx x) (broadcastInDim S1x1 ![] bcast_S_S1x1 (constantI S_ 32 0#32))) (cmpi .sle (rIdx x) (broadcastInDim S1x1 ![1] bcast_S1_S1x1_1 (constantI S1 32 99999#32)))) (constantI S_ 1 1#1) reducesTo_S1x1_S1_d1 h_S_
/-- The row of the table. -/
def rEmb (x : IVec S1 32) (E : FVec Ideal S100000x64 .f32) : FVec Ideal S1x64 .f32 :=
  select (broadcastInDim S1x64 ![0] bcast_S1_S1x64_0 (rOk x)) (Host.gather gather_S100000x64_S1x1_S1x64_1_0_n_n_0_1_164 E (rIdx x)) (broadcastInDim S1x64 ![] bcast_S_S1x64 (constant (F := Ideal) S_ .f32 0x7FC00000#32))
/-- The hidden layer. -/
def rHid (e : FVec Ideal S1x64 .f32) (W1 : FVec Ideal S64x128 .f32) (b1 : FVec Ideal S128 .f32) : FVec Ideal S1x128 .f32 :=
  maximumf (addf (Host.dotGeneral (F := Ideal) (φ₁ := .f32) (φ₂ := .f32) dot_S1x64_S64x128_S1x128_1_0_0_1_n_n none e W1) (broadcastInDim S1x128 ![1] bcast_S128_S1x128_1 b1)) (broadcastInDim S1x128 ![] bcast_S_S1x128 (constant (F := Ideal) S_ .f32 0x00000000#32))
/-- The logits. -/
def rLog (h : FVec Ideal S1x128 .f32) (W2 : FVec Ideal S128x300000 .f32) (b2 : FVec Ideal S300000 .f32) : FVec Ideal S1x300000 .f32 :=
  addf (Host.dotGeneral (F := Ideal) (φ₁ := .f32) (φ₂ := .f32) dot_S1x128_S128x300000_S1x300000_1_0_0_1_n_n none h W2) (broadcastInDim S1x300000 ![1] bcast_S300000_S1x300000_1 b2)
/-- The greatest logit. -/
def rMax (l : FVec Ideal S1x300000 .f32) : FVec Ideal S1 .f32 :=
  maximumf (broadcastInDim S1 ![] bcast_S_S1 (constant (F := Ideal) S_ .f32 0xFF800000#32)) (Host.reduce FloatOps.maximumf l (constant (F := Ideal) S_ .f32 0xFF800000#32) reducesTo_S1x300000_S1_d1 h_S_)
/-- The logits less the greatest. -/
def rSub (l : FVec Ideal S1x300000 .f32) : FVec Ideal S1x300000 .f32 :=
  subf l (broadcastInDim S1x300000 ![0, 1] bcast_S1x1_S1x300000_0_1 (broadcastInDim S1x1 ![0] bcast_S1_S1x1_0 (rMax l)))
/-- The logarithm of the softmax. -/
def rOut (l : FVec Ideal S1x300000 .f32) : FVec Ideal S1x300000 .f32 :=
  subf (rSub l) (broadcastInDim S1x300000 ![0, 1] bcast_S1x1_S1x300000_0_1 (Host.log (broadcastInDim S1x1 ![0] bcast_S1_S1x1_0 (Host.reduceAdd (Host.exp (rSub l)) (constant (F := Ideal) S_ .f32 0x00000000#32) reducesTo_S1x300000_S1_d1 h_S_))))
/-- The reference's result. -/
def rRes (x : IVec S1 32) (E : FVec Ideal S100000x64 .f32) (W1 : FVec Ideal S64x128 .f32) (b1 : FVec Ideal S128 .f32)
    (W2 : FVec Ideal S128x300000 .f32) (b2 : FVec Ideal S300000 .f32) : FVec Ideal S3x100000 .f32 :=
  shapeCast S3x100000 (rOut (rLog (rHid (rEmb x E) W1 b1) W2 b2)) shapeCasts_S1x300000_S3x100000

/-- The result in those steps. -/
theorem res_eq (m : (ℓ : Loc nD τ sig) → Buf (Elt Ideal) ℓ) (c : Dev nD) :
    Value.res_main_v9 m c = rRes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Value.res_main_v9
  rfl

/-- A small natural number is not below zero. -/
theorem not_neg (n : Nat) (hn : n < 100000) : IntOp.cmpi .slt (BitVec.ofNat 32 n) 0#32 = 0#1 := by
  have : ¬ (IntOp.cmpi .slt (BitVec.ofNat 32 n) 0#32 = 1#1) := fun h =>
    absurd ((StableHlo.Predicate.slt_iff_toNat (by simp; omega) (by decide)).1 h) (by simp)
  revert this; generalize IntOp.cmpi .slt (BitVec.ofNat 32 n) 0#32 = b; revert b; decide
/-- It lies in the table. -/
theorem in_table (n : Nat) (hn : n < 100000) :
    IntOp.andi (IntOp.cmpi .sge (BitVec.ofNat 32 n) 0#32) (IntOp.cmpi .sle (BitVec.ofNat 32 n) 99999#32) = 1#1 := by
  have h1 : IntOp.cmpi .sge (BitVec.ofNat 32 n) 0#32 = 1#1 :=
    (StableHlo.Predicate.sge_iff_toNat (by simp; omega) (by decide)).2 (by simp)
  have h2 : IntOp.cmpi .sle (BitVec.ofNat 32 n) 99999#32 = 1#1 :=
    (StableHlo.Predicate.sle_iff_toNat (by simp; omega) (by decide)).2 (by simp; omega)
  rw [h1, h2]; rfl

section Apply

variable (x : IVec S1 32) (i : Fin 100000) (hx : x (ix1 0) = BitVec.ofNat 32 i.val)
include hx

/-- The index itself, since it is not negative. -/
theorem rIdx_apply (y : S1x1.Idx) : rIdx x y = BitVec.ofNat 32 i.val := by
  idx_vars y
  have hn := not_neg i.val i.isLt
  pointwise [rIdx]
  rw [hx, hn]; rfl

/-- The index lies in the table. -/
theorem rOk_apply (y : S1.Idx) : rOk x y = 1#1 := by
  unfold rOk
  refine Host.reduce_andi_one _ _ _ _ _ rfl fun z => ?_
  have e := rIdx_apply x i hx z
  idx_vars z
  pointwise []
  rw [e]
  exact in_table i.val i.isLt

/-- The index's row of the table. -/
theorem rEmb_apply (E : FVec Ideal S100000x64 .f32) (k : Fin 64) : rEmb x E (ix2 0 k) = E (ix2 i k) := by
  pointwise [rEmb]
  rw [rOk_apply x i hx]
  exact Routing.gather_row gather_S100000x64_S1x1_S1x64_1_0_n_n_0_1_164 rfl rfl rfl rfl rfl E (rIdx x) 0 k i (rIdx_apply x i hx _) (by decide)
end Apply

/-- The hidden layer, entry by entry. -/
theorem rHid_apply (e : FVec Ideal S1x64 .f32) (W1 : FVec Ideal S64x128 .f32) (b1 : FVec Ideal S128 .f32) (j : Fin 128) :
    rHid e W1 b1 (ix2 0 j) = max ((∑ k : Fin 64, e (ix2 0 k) * W1 (ix2 k j)) + b1 (ix1 j)) 0 := by
  pointwise [rHid]
/-- The logits, entry by entry. -/
theorem rLog_apply (h : FVec Ideal S1x128 .f32) (W2 : FVec Ideal S128x300000 .f32) (b2 : FVec Ideal S300000 .f32) (n : Fin 300000) :
    rLog h W2 b2 (ix2 0 n) = (∑ j : Fin 128, h (ix2 0 j) * W2 (ix2 j n)) + b2 (ix1 n) := by
  pointwise [rLog]
/-- The logits less the greatest, entry by entry. -/
theorem rSub_apply (l : FVec Ideal S1x300000 .f32) (n : Fin 300000) : rSub l (ix2 0 n) = l (ix2 0 n) - rMax l (ix1 0) := by
  pointwise [rSub]
/-- The logarithm of the softmax, entry by entry. -/
theorem rOut_apply (l : FVec Ideal S1x300000 .f32) (n : Fin 300000) :
    rOut l (ix2 0 n) = rSub l (ix2 0 n) - Ideal.log (∑ k : Fin 300000, Ideal.exp (rSub l (ix2 0 k))) := by
  pointwise [rOut]

/-- The result's rows are consecutive stretches of the logarithm of the softmax. -/
theorem rRes_apply (x : IVec S1 32) (E : FVec Ideal S100000x64 .f32) (W1 : FVec Ideal S64x128 .f32) (b1 : FVec Ideal S128 .f32)
    (W2 : FVec Ideal S128x300000 .f32) (b2 : FVec Ideal S300000 .f32) (r : Fin 3) (q : Fin 100000) :
    rRes x E W1 b1 W2 b2 (ix2 r q) = rOut (rLog (rHid (rEmb x E) W1 b1) W2 b2) (ix2 0 ⟨100000 * r.val + q.val, by have := r.isLt; have := q.isLt; omega⟩) := by
  pointwise [rRes]
  exact congrArg (fun z : Fin 300000 => rOut (rLog (rHid (rEmb x E) W1 b1) W2 b2) (ix2 0 z)) (Fin.ext (by show r.val * 100000 + q.val = 100000 * r.val + q.val; omega))

end Cert.Proof.RefValue

end
-- ==== Proof.Value.LogSoftmax.lean ====
/-
  The equation behind the kernel's normaliser: subtracting the greatest entry first changes no entry of the
  logarithm of the softmax, at every row of extended reals.
-/
module

public import Idealize.ShloMosaic.PureOps.Ideal
public import Mathlib.Data.EReal.Operations
public import Mathlib.Data.Finset.Lattice.Fold

@[expose] public section

noncomputable section

namespace Cert.Proof.LogSoftmax

open Idealize.ShloMosaic
open scoped BigOperators

variable {ι : Type} [Fintype ι]

theorem exp_nonneg (x : EReal) : 0 ≤ Ideal.exp x := by
  induction x using EReal.rec with
  | bot => exact le_refl _
  | top => exact le_top
  | coe r => exact EReal.coe_nonneg.2 (Real.exp_pos r).le

theorem exp_bot : Ideal.exp ⊥ = 0 := rfl
theorem exp_coe (r : ℝ) : Ideal.exp (r : EReal) = (Real.exp r : EReal) := rfl

/-- A sum of exponentials is at least each of them. -/
theorem exp_le_sum (x : ι → EReal) (i : ι) : Ideal.exp (x i) ≤ ∑ j, Ideal.exp (x j) :=
  Finset.single_le_sum (f := fun j => Ideal.exp (x j)) (fun j _ => exp_nonneg _) (Finset.mem_univ i)

/-- The exponential of an entry that is not infinite from above, as a real number. -/
def ex : EReal → ℝ
  | ⊥ => 0
  | ⊤ => 0
  | (r : ℝ) => Real.exp r

theorem ex_nonneg (x : EReal) : 0 ≤ ex x := by
  induction x using EReal.rec with
  | bot => exact le_refl _
  | top => exact le_refl _
  | coe r => exact (Real.exp_pos r).le

theorem exp_eq_ex {x : EReal} (h : x ≠ ⊤) : Ideal.exp x = (ex x : EReal) := by
  induction x using EReal.rec with
  | bot => rfl
  | top => exact absurd rfl h
  | coe r => rfl

/-- A shift by a real number multiplies the exponential. -/
theorem exp_sub_coe {x : EReal} (h : x ≠ ⊤) (m : ℝ) : Ideal.exp (x - (m : EReal)) = ((Real.exp (-m) * ex x : ℝ) : EReal) := by
  induction x using EReal.rec with
  | bot => rw [EReal.bot_sub, exp_bot, show ex ⊥ = 0 from rfl, mul_zero, EReal.coe_zero]
  | top => exact absurd rfl h
  | coe r =>
    rw [← EReal.coe_sub, exp_coe]
    show ((Real.exp (r - m) : ℝ) : EReal) = ((Real.exp (-m) * Real.exp r : ℝ) : EReal)
    rw [← Real.exp_add]; congr 2; ring

theorem coe_sum (f : ι → ℝ) : ∑ j, ((f j : ℝ) : EReal) = ((∑ j, f j : ℝ) : EReal) := by
  classical
  induction (Finset.univ : Finset ι) using Finset.induction_on with
  | empty => simp
  | insert a s ha ih => rw [Finset.sum_insert ha, Finset.sum_insert ha, ih, EReal.coe_add]

theorem log_coe_pos {r : ℝ} (h : 0 < r) : Ideal.log (r : EReal) = (Real.log r : EReal) := if_neg (not_le.2 h)

/-- Subtracting an upper bound `M` that some entry attains (or that is `⊥`) before the exponentials does not change
    the result. -/
theorem shift (x : ι → EReal) (M : EReal) (hle : ∀ j, x j ≤ M) (hat : M = ⊥ ∨ ∃ j, x j = M) (i : ι) :
    (x i - M) - Ideal.log (∑ j, Ideal.exp (x j - M)) = x i - Ideal.log (∑ j, Ideal.exp (x j)) := by
  induction M using EReal.rec with
  | bot =>
    have e : x i = ⊥ := le_bot_iff.1 (hle i)
    rw [e, EReal.bot_sub, EReal.bot_sub, EReal.bot_sub]
  | top =>
    obtain ⟨j, hj⟩ := hat.resolve_left (by simp)
    have hs : ∑ j, Ideal.exp (x j) = ⊤ := top_le_iff.1 (by
      have := exp_le_sum x j
      rwa [hj] at this)
    rw [hs, show Ideal.log ⊤ = ⊤ from rfl, EReal.sub_top, EReal.bot_sub]
  | coe m =>
    obtain ⟨j0, hj0⟩ := hat.resolve_left (by simp)
    have hn : ∀ j, x j ≠ ⊤ := fun j h => by
      have := hle j
      rw [h] at this
      exact absurd (top_le_iff.1 this) (EReal.coe_ne_top m)
    have h1 : ∑ j, Ideal.exp (x j) = ((∑ j, ex (x j) : ℝ) : EReal) := by
      rw [← coe_sum]; exact Finset.sum_congr rfl fun j _ => exp_eq_ex (hn j)
    have h2 : ∑ j, Ideal.exp (x j - (m : EReal)) = ((Real.exp (-m) * ∑ j, ex (x j) : ℝ) : EReal) := by
      rw [Finset.mul_sum, ← coe_sum]; exact Finset.sum_congr rfl fun j _ => exp_sub_coe (hn j) m
    have hpos : 0 < ∑ j, ex (x j) := by
      refine lt_of_lt_of_le (Real.exp_pos m) ?_
      have := Finset.single_le_sum (f := fun j => ex (x j)) (fun j _ => ex_nonneg _) (Finset.mem_univ j0)
      rwa [hj0] at this
    rw [h1, h2, log_coe_pos hpos, log_coe_pos (mul_pos (Real.exp_pos _) hpos), Real.log_mul (Real.exp_pos _).ne' hpos.ne', Real.log_exp]
    have hi := hn i
    generalize x i = z at hi
    induction z using EReal.rec with
    | bot => simp only [EReal.bot_sub]
    | top => exact absurd rfl hi
    | coe r =>
      rw [← EReal.coe_sub, ← EReal.coe_sub, ← EReal.coe_sub]
      congr 1; ring

/-- The greatest entry, `⊥` if there is none, is such a bound. -/
theorem shift_sup (x : ι → EReal) (i : ι) :
    (x i - Finset.univ.sup x) - Ideal.log (∑ j, Ideal.exp (x j - Finset.univ.sup x)) = x i - Ideal.log (∑ j, Ideal.exp (x j)) := by
  refine shift x _ (fun j => Finset.le_sup (Finset.mem_univ j)) (Or.inr ?_) i
  obtain ⟨j, _, hj⟩ := Finset.exists_mem_eq_sup Finset.univ ⟨i, Finset.mem_univ i⟩ x
  exact ⟨j, hj.symm⟩

end Cert.Proof.LogSoftmax

end
-- ==== Proof.Value.Maximum.lean ====
/-
  A maximum taken along an array, over extended reals, at any extents: it bounds every entry it is taken over, and it is
  one of them unless it is the least extended real.
-/
module

public import Idealize.ShloMosaic.PureOps.Ideal
public import Idealize.ShloMosaic.PureOps.Ideal.Laws

@[expose] public section

noncomputable section

namespace Cert.Proof.Maximum

open Idealize.ShloMosaic

/-- The least extended real's pattern. -/
theorem ofBits_bot : Ideal.ofBits .f32 0xFF800000#32 = ⊥ := by simp [Ideal.ofBits, Ideal.ieee]

/-- The fold of the maximum over a finite set, from the least extended real. -/
theorem fold_spec {ι : Type} (f : EReal → EReal → EReal) [Std.Commutative f] [Std.Associative f] (hf : ∀ a b, f a b = max a b)
    (x : ι → EReal) (s : Finset ι) :
    (∀ i ∈ s, x i ≤ s.fold f ⊥ x) ∧ (s.fold f ⊥ x = ⊥ ∨ ∃ i ∈ s, x i = s.fold f ⊥ x) := by
  classical
  induction s using Finset.induction_on with
  | empty => exact ⟨fun i h => absurd h (Finset.notMem_empty i), .inl Finset.fold_empty⟩
  | insert a s ha ih =>
    rw [Finset.fold_insert ha, hf]
    refine ⟨fun i hi => ?_, ?_⟩
    · rcases Finset.mem_insert.1 hi with rfl | hi
      · exact le_max_left _ _
      · exact (ih.1 i hi).trans (le_max_right _ _)
    · rcases le_total (s.fold f ⊥ x) (x a) with h | h
      · exact .inr ⟨a, Finset.mem_insert_self a s, (max_eq_left h).symm⟩
      · rw [max_eq_right h]
        exact ih.2.imp id fun ⟨i, hi, e⟩ => ⟨i, Finset.mem_insert_of_mem hi, e⟩

/-- A row's maximum reduced to one entry. -/
theorem reduce_spec {s t u : Shape} {axes : List (Fin s.rank)} (x : s.Idx → EReal) (init : u.Idx → EReal) (h : s.ReducesTo axes t)
    (hu : 0 < u.numel) (j : t.Idx) (hj : ∀ k : t.Idx, k = j) (hi : ∀ y, init y = ⊥) :
    (∀ i, x i ≤ Host.reduce (FloatOps.maximumf (F := Ideal) (φ := .f32)) x init h hu j)
      ∧ (Host.reduce (FloatOps.maximumf (F := Ideal) (φ := .f32)) x init h hu j = (⊥ : EReal)
        ∨ ∃ i, x i = Host.reduce (FloatOps.maximumf (F := Ideal) (φ := .f32)) x init h hu j) := by
  rw [Host.reduce_eq_fold (α := EReal) (FloatOps.maximumf (F := Ideal) (φ := .f32)), hi]
  have e := fold_spec (FloatOps.maximumf (F := Ideal) (φ := .f32)) (fun _ _ => rfl) x (Finset.univ.filter fun i => h.drop i = j)
  exact ⟨fun i => e.1 i (Finset.mem_filter.2 ⟨Finset.mem_univ i, hj _⟩), e.2.imp id fun ⟨i, _, a⟩ => ⟨i, a⟩⟩

/-- The same, after one more maximum with the least extended real. -/
theorem reduce_spec' {s t u : Shape} {axes : List (Fin s.rank)} (b : FVec Ideal t .f32) (x : FVec Ideal s .f32) (init : FVec Ideal u .f32)
    (h : s.ReducesTo axes t) (hu : 0 < u.numel) (j : t.Idx) (hj : ∀ k : t.Idx, k = j) (hi : ∀ y, init y = (⊥ : EReal)) (hb : b j = (⊥ : EReal))
    (M : EReal) (hM : maximumf b (Host.reduce FloatOps.maximumf x init h hu) j = M) :
    (∀ i, (x i : EReal) ≤ M) ∧ (M = ⊥ ∨ ∃ i, (x i : EReal) = M) := by
  have e : M = Host.reduce (FloatOps.maximumf (F := Ideal) (φ := .f32)) x init h hu j := by
    subst hM
    show max (b j : EReal) _ = _
    rw [hb]
    exact max_eq_right bot_le
  rw [e]
  exact reduce_spec x init h hu j hj hi

end Cert.Proof.Maximum

end
-- ==== Proof.Value.Result.lean ====
/-
  The reference's result, entry by entry: the logarithm of the softmax with no maximum subtracted.
-/
module

public import proofs.«01_k».proof.Proof.Value.Reference
public import proofs.«01_k».proof.Proof.Value.Spec
public import proofs.«01_k».proof.Proof.Value.LogSoftmax
public import proofs.«01_k».proof.Proof.Value.Maximum

@[expose] public section

set_option maxRecDepth 16384

noncomputable section

namespace Cert.Proof.RefValue

open Cert.ReferenceIdeal Cert.ReferenceIdeal.Gen
open Idealize.ShloMosaic
open Idealize.ShloMosaic.TcCoe
open scoped BigOperators

/-- The greatest logit bounds each logit, and is one of them or the least extended real. -/
theorem rMax_spec (l : FVec Ideal S1x300000 .f32) :
    (∀ y, (l y : EReal) ≤ rMax l (ix1 0)) ∧ (rMax l (ix1 0) = (⊥ : EReal) ∨ ∃ y, l y = rMax l (ix1 0)) := by
  refine Maximum.reduce_spec' (broadcastInDim S1 ![] bcast_S_S1 (constant (F := Ideal) S_ .f32 0xFF800000#32)) l
    (constant (F := Ideal) S_ .f32 0xFF800000#32) reducesTo_S1x300000_S1_d1 h_S_ (ix1 0) (fun k => ?_) (fun _ => Maximum.ofBits_bot) Maximum.ofBits_bot
    (rMax l (ix1 0)) ?_
  · idx_vars k
    exact congrArg ix1 (Subsingleton.elim _ _)
  · unfold rMax
    exact Eq.refl _

/-- The softmax of a row whose entries are known, with no maximum subtracted. -/
theorem rOut_eq (l : FVec Ideal S1x300000 .f32) (g : Fin 300000 → EReal) (hl : ∀ n, l (ix2 0 n) = g n) (n : Fin 300000) :
    rOut l (ix2 0 n) = g n - Ideal.log (∑ k : Fin 300000, Ideal.exp (g k)) := by
  have hM := rMax_spec l
  have hs : ∀ k : Fin 300000, rSub l (ix2 0 k) = g k - rMax l (ix1 0) := fun k => by rw [rSub_apply, hl]
  refine (rOut_apply l n).trans ?_
  refine (congrArg₂ (fun a b : EReal => a - Ideal.log b) (hs n) (Finset.sum_congr rfl fun k _ => congrArg Ideal.exp (hs k))).trans ?_
  refine LogSoftmax.shift g (rMax l (ix1 0)) (fun j => (hl j).symm.trans_le (hM.1 _)) (hM.2.imp id fun ⟨y, hy⟩ => ?_) n
  idx_vars y
  obtain rfl : y0 = 0 := Subsingleton.elim _ _
  exact ⟨y1, (hl y1).symm.trans hy⟩

/-- The reference's result, entry by entry. -/
theorem result (x : IVec S1 32) (i : Fin 100000) (hx : x (ix1 0) = BitVec.ofNat 32 i.val) (E : FVec Ideal S100000x64 .f32) (W1 : FVec Ideal S64x128 .f32)
    (b1 : FVec Ideal S128 .f32) (W2 : FVec Ideal S128x300000 .f32) (b2 : FVec Ideal S300000 .f32) (r : Fin 3) (q : Fin 100000) :
    rRes x E W1 b1 W2 b2 (ix2 r q) = Spec.out E W1 b1 W2 b2 i ⟨100000 * r.val + q.val, by have := r.isLt; have := q.isLt; omega⟩ := by
  refine (rRes_apply x E W1 b1 W2 b2 r q).trans (rOut_eq _ (Spec.lg E W1 b1 W2 b2 i) (fun n => ?_) _)
  refine (rLog_apply _ W2 b2 n).trans ?_
  refine congrArg (· + b2 (ix1 n)) (Finset.sum_congr rfl fun j _ => congrArg (· * W2 (ix2 j n)) ?_)
  refine (rHid_apply _ W1 b1 j).trans ?_
  refine congrArg (fun z => max (z + b1 (ix1 j)) 0) (Finset.sum_congr rfl fun k _ => congrArg (· * W1 (ix2 k j)) ?_)
  exact rEmb_apply x i hx E k

end Cert.Proof.RefValue

end
-- ==== Proof.lean ====
/-
  The proof of `Cert.Claim`: the three frames, the idealization, and the equality of the kernel with the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_vocab
public import proofs.«01_k».proof.Proof.Word
public import proofs.«01_k».proof.Proof.Kernel.Frame
public import proofs.«01_k».proof.Proof.KernelIdeal.Frame
public import proofs.«01_k».proof.Proof.Value.Kernel
public import proofs.«01_k».proof.Proof.Value.Result
public import Idealize.ShloMosaic.Adequacy
public import Idealize.ShloMosaic.Init

@[expose] public section

noncomputable section

namespace Cert.Proof

open Idealize.ShloMosaic Idealize.SL.Sem

/-- The kernel at bit patterns runs and leaves its arguments alone. -/
theorem frame_Kernel : Cert.quiescent_Kernel := fun m g hpre =>
  have hR : KernelRun.InRange m := Word.range_of_pre _ _ _ _ _ _ (hpre 0)
  (θ_run _ _ _).mono (fun _ h => ⟨fun c => (h.1 c).2, h.2⟩) (KernelRun.run_named m (KernelRun.ok_of_range m hR) g)

/-- The kernel at extended reals runs and leaves its arguments alone. -/
theorem frame_KernelIdeal : Cert.quiescent_KernelIdeal := fun m g hpre =>
  have hR : KernelIdealRun.InRange m := Word.range_of_pre _ _ _ _ _ _ (hpre 0)
  (θ_run _ _ _).mono (fun _ h => ⟨fun c => (h.1 c).2, h.2⟩) (KernelIdealRun.run_named m (KernelIdealRun.ok_of_range m hR) g)

/-- The reference runs and leaves its arguments alone; it has no semaphore. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two results, entry by entry: from one index and one set of arrays both programs compute one function. -/
theorem entry (m : (ℓ : Loc Cert.KernelIdeal.nD Cert.KernelIdeal.τ Cert.KernelIdeal.sig) → Buf (Elt Ideal) ℓ) (c : Dev Cert.KernelIdeal.nD)
    (hR : KernelIdealRun.InRange m) (x : IVec Cert.ReferenceIdeal.S1 32) (hx : x (ix1 0) = BitVec.ofNat 32 (KernelIdealRun.idxN m))
    (y : Cert.ReferenceIdeal.S3x100000.Idx) :
    RefValue.rRes x (KernelIdealRun.aE m c) (KernelIdealRun.aW1 m c) (KernelIdealRun.aB1 m c) (KernelIdealRun.aW2 m c) (KernelIdealRun.aB2 m c) y
      = KernelIdealRun.outArr m (KernelIdealRun.ok_of_range m hR) c y := by
  idx_vars y
  exact (RefValue.result x (KernelIdealRun.rowIx m hR) hx _ _ _ _ _ y0 y1).trans
    (KernelIdealRun.outArr_apply m c (KernelIdealRun.ok_of_range m hR) hR y0 y1).symm

/-- The kernel and the reference compute one result. -/
theorem algebraic : Cert.algebraic_KernelIdeal_ReferenceIdeal := fun m g m' g' hpre harg =>
  have hR : KernelIdealRun.InRange m := Word.range_of_pre _ _ _ _ _ _ (hpre 0)
  have hO := KernelIdealRun.ok_of_range m hR
  ⟨fun c => KernelIdealRun.outArr m hO c,
    (θ_run _ _ _).mono (fun _ h => h.1) (KernelIdealRun.run_named m hO g),
    (θ_run Cert.ReferenceIdeal.defs _ _).mono (fun _ h c => ⟨(h c).1.trans (by
      rw [RefValue.res_eq]
      obtain ⟨h0, h1, h2, h3, h4, h5⟩ := harg c
      rw [h0, h1, h2, h3, h4, h5]
      refine funext fun y => entry m c hR _ ?_ y
      have hc : c = 0 := Subsingleton.elim _ _
      subst hc
      exact BitVec.eq_of_toNat_eq ((BitVec.toNat_ofNat _ _).trans (Nat.mod_eq_of_lt (BitVec.isLt _))).symm), (h c).2⟩)
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_in_vocab.Gen.facts,
    frame_Kernel, frame_KernelIdeal, frame_ReferenceIdeal, trivial, algebraic⟩

end Cert.Proof

end
